-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨2, ![1024, 2048]⟩ ⟨2, ![2048, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![1024, 2048]⟩ ⟨2, ![2048, 2048]⟩ (Layout.meshBlock [2, 2, 2] ![[1], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 2048]⟩ ⟨2, ![2048, 2048]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)

variable [Facts]

def fn {F : FTy → Type} [FloatOps F] (main_arg0 : FVec F S1024x2048 .f32) (main_arg1 : FVec F S1024x2048 .f32) (main_arg2 : FVec F S1024x2048 .f32) : IVec S1024x2048 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S1024x2048 .f32 := Host.absf main_arg1
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : IVec S1024x2048 1 := andi main_v2 main_v5
  main_v6
-- ==== Pre_finite_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) (main_arg2 : FVec F S2048x2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : IVec S2048x2048 1 := andi main_v2 main_v5
  main_v6
-- ==== Kernel.lean ====
abbrev S1024x2048 : Shape := ⟨2, ![1024, 2048]⟩
abbrev S2x1024x2048 : Shape := ⟨3, ![2, 1024, 2048]⟩
abbrev S1024x128 : Shape := ⟨2, ![1024, 128]⟩
abbrev S2x2 : Shape := ⟨2, ![2, 2]⟩
abbrev S2x3 : Shape := ⟨2, ![2, 3]⟩
abbrev S_ : Shape := ⟨0, ![]⟩
abbrev S1x1 : Shape := ⟨2, ![1, 1]⟩
abbrev S1x128x2048 : Shape := ⟨3, ![1, 128, 2048]⟩
abbrev S128x2048 : Shape := ⟨2, ![128, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S1024x1 : Shape := ⟨2, ![1024, 1]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2x1024x2048, .f32⟩
  | .local _ .vmem, ⟨5, _⟩ => ⟨S1024x128, .f32⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_8 : BitVec 32 := 2#32
  let v15 : BitVec 32 := Scalar.muli v9 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v19 : BitVec 32 := Scalar.muli v10 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_28 : BitVec 32) : Fin 3 → Nat :=
  let c0_i32_29 : BitVec 32 := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v43 : BitVec 32 := Scalar.muli v32 c256_i32
  let v44 : BitVec 32 := Scalar.addi v43 c0_i32_28
  let c0_i32_38 : BitVec 32 := 0#32
  ![0, v44.toNat, 0]
def k0_off2 (d0 : Dev nD) (c0_i32_28 : BitVec 32) : Fin 2 → Nat :=
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v43 : BitVec 32 := Scalar.muli v32 c256_i32
  let v44 : BitVec 32 := Scalar.addi v43 c0_i32_28
  let c0_i32_39 : BitVec 32 := 0#32
  ![v44.toNat, 0]
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v45 : BitVec 32 := Scalar.muli v2 c4_i32_34
  let v46 : BitVec 32 := Scalar.addi c0_i32_35 v45
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_36 : BitVec 32 := 2#32
  let v47 : BitVec 32 := Scalar.muli v9 c2_i32_36
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v49 : BitVec 32 := Scalar.muli v8 c1_i32_37
  let v50 : BitVec 32 := Scalar.addi v48 v49
  v50.toNat
def k0_off3 (d0 : Dev nD) (c0_i32_28 : BitVec 32) : Fin 3 → Nat :=
  let c1_i32_40 : BitVec 32 := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32 : BitVec 32 := 256#32
  let v43 : BitVec 32 := Scalar.muli v32 c256_i32
  let v44 : BitVec 32 := Scalar.addi v43 c0_i32_28
  let c0_i32_49 : BitVec 32 := 0#32
  ![1, v44.toNat, 0]
def k0_dev5 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v58 : BitVec 32 := Scalar.muli v2 c4_i32_45
  let v59 : BitVec 32 := Scalar.addi c0_i32_46 v58
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_47 : BitVec 32 := 2#32
  let v60 : BitVec 32 := Scalar.muli v9 c2_i32_47
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v62 : BitVec 32 := Scalar.muli v8 c1_i32_48
  let v63 : BitVec 32 := Scalar.addi v61 v62
  v63.toNat
def k0_dev6 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v73 : BitVec 32 := Scalar.muli v2 c4_i32_57
  let v74 : BitVec 32 := Scalar.addi c0_i32_58 v73
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_59 : BitVec 32 := 2#32
  let v75 : BitVec 32 := Scalar.muli v9 c2_i32_59
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v77 : BitVec 32 := Scalar.muli v8 c1_i32_60
  let v78 : BitVec 32 := Scalar.addi v76 v77
  v78.toNat
def k0_dev7 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v86 : BitVec 32 := Scalar.muli v2 c4_i32_68
  let v87 : BitVec 32 := Scalar.addi c0_i32_69 v86
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_70 : BitVec 32 := 2#32
  let v88 : BitVec 32 := Scalar.muli v9 c2_i32_70
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v90 : BitVec 32 := Scalar.muli v8 c1_i32_71
  let v91 : BitVec 32 := Scalar.addi v89 v90
  v91.toNat
@[reducible] def k0_t1_loop : Scf.Loop 32 :=
  let c0_i32_81 : BitVec 32 := 0#32
  let c4_i32_82 : BitVec 32 := 4#32
  let v113 : BitVec 32 := Scalar.addi c0_i32_81 c4_i32_82
  let c1_i32_83 : BitVec 32 := 1#32
  ⟨c0_i32_81, v113, c1_i32_83⟩
def k0_off4 (k0_t1 : Fin k0_t1_loop.trips) : Fin 2 → Nat :=
  let c0_i32_81 : BitVec 32 := 0#32
  let c1_i32_83 : BitVec 32 := 1#32
  let arg13 : BitVec 32 := Scf.iv c0_i32_81 c1_i32_83 k0_t1
  let c256_i32_2824 : BitVec 32 := 256#32
  let v3756 : BitVec 32 := Scalar.muli arg13 c256_i32_2824
  let v3757 : Index := Scalar.indexCast v3756
  let c0_2825 : Index := 0#32
  ![v3757.toNat, 0]
def k0_off5 (k0_t1 : Fin k0_t1_loop.trips) : Fin 2 → Nat :=
  let c0_i32_81 : BitVec 32 := 0#32
  let c1_i32_83 : BitVec 32 := 1#32
  let arg13 : BitVec 32 := Scf.iv c0_i32_81 c1_i32_83 k0_t1
  let c256_i32_2824 : BitVec 32 := 256#32
  let v3756 : BitVec 32 := Scalar.muli arg13 c256_i32_2824
  let v3764 : Index := Scalar.indexCast v3756
  let c0_2828 : Index := 0#32
  ![v3764.toNat, 0]
@[reducible] def k0_t2_loop : Scf.Loop 32 :=
  let c0_i32_88 : BitVec 32 := 0#32
  let c4_i32_89 : BitVec 32 := 4#32
  let v120 : BitVec 32 := Scalar.addi c0_i32_88 c4_i32_89
  let c1_i32_90 : BitVec 32 := 1#32
  ⟨c0_i32_88, v120, c1_i32_90⟩
def k0_off6 (k0_t2 : Fin k0_t2_loop.trips) : Fin 2 → Nat :=
  let c0_i32_88 : BitVec 32 := 0#32
  let c1_i32_90 : BitVec 32 := 1#32
  let arg13 : BitVec 32 := Scf.iv c0_i32_88 c1_i32_90 k0_t2
  let c256_i32_2824 : BitVec 32 := 256#32
  let v3756 : BitVec 32 := Scalar.muli arg13 c256_i32_2824
  let v3757 : Index := Scalar.indexCast v3756
  let c128_2825 : Index := 128#32
  ![v3757.toNat, 128]
def k0_off7 (k0_t2 : Fin k0_t2_loop.trips) : Fin 2 → Nat :=
  let c0_i32_88 : BitVec 32 := 0#32
  let c1_i32_90 : BitVec 32 := 1#32
  let arg13 : BitVec 32 := Scf.iv c0_i32_88 c1_i32_90 k0_t2
  let c256_i32_2824 : BitVec 32 := 256#32
  let v3756 : BitVec 32 := Scalar.muli arg13 c256_i32_2824
  let v3764 : Index := Scalar.indexCast v3756
  let c1_2828 : Index := 1#32
  ![v3764.toNat, 1]
@[reducible] def k0_t3_loop : Scf.Loop 32 :=
  let c0_i32_95 : BitVec 32 := 0#32
  let c4_i32_96 : BitVec 32 := 4#32
  let v127 : BitVec 32 := Scalar.addi c0_i32_95 c4_i32_96
  let c1_i32_97 : BitVec 32 := 1#32
  ⟨c0_i32_95, v127, c1_i32_97⟩
def k0_off8 (k0_t3 : Fin k0_t3_loop.trips) : Fin 2 → Nat :=
  let c0_i32_95 : BitVec 32 := 0#32
  let c1_i32_97 : BitVec 32 := 1#32
  let arg13 : BitVec 32 := Scf.iv c0_i32_95 c1_i32_97 k0_t3
  let c256_i32_2824 : BitVec 32 := 256#32
  let v3756 : BitVec 32 := Scalar.muli arg13 c256_i32_2824
  let v3757 : Index := Scalar.indexCast v3756
  let c256_2825 : Index := 256#32
  ![v3757.toNat, 256]
def k0_off9 (k0_t3 : Fin k0_t3_loop.trips) : Fin 2 → Nat :=
  let c0_i32_95 : BitVec 32 := 0#32
  let c1_i32_97 : BitVec 32 := 1#32
  let arg13 : BitVec 32 := Scf.iv c0_i32_95 c1_i32_97 k0_t3
  let c256_i32_2824 : BitVec 32 := 256#32
  let v3756 : BitVec 32 := Scalar.muli arg13 c256_i32_2824
  let v3764 : Index := Scalar.indexCast v3756
  let c2_2828 : Index := 2#32
  ![v3764.toNat, 2]
@[reducible] def k0_t4_loop : Scf.Loop 32 :=
  let c0_i32_102 : BitVec 32 := 0#32
  let c4_i32_103 : BitVec 32 := 4#32
  let v134 : BitVec 32 := Scalar.addi c0_i32_102 c4_i32_103
  let c1_i32_104 : BitVec 32 := 1#32
  ⟨c0_i32_102, v134, c1_i32_104⟩
def k0_off10 (k0_t4 : Fin k0_t4_loop.trips) : Fin 2 → Nat :=
  let c0_i32_102 : BitVec 32 := 0#32
  let c1_i32_104 : BitVec 32 := 1#32
  let arg13 : BitVec 32 := Scf.iv c0_i32_102 c1_i32_104 k0_t4
  let c256_i32_2824 : BitVec 32 := 256#32
  let v3756 : BitVec 32 := Scalar.muli arg13 c256_i32_2824
  let v3757 : Index := Scalar.indexCast v3756
  let c384_2825 : Index := 384#32
  ![v3757.toNat, 384]
def k0_off11 (k0_t4 : Fin k0_t4_loop.trips) : Fin 2 → Nat :=
  let c0_i32_102 : BitVec 32 := 0#32
  let c1_i32_104 : BitVec 32 := 1#32
  let arg13 : BitVec 32 := Scf.iv c0_i32_102 c1_i32_104 k0_t4
  let c256_i32_2824 : BitVec 32 := 256#32
  let v3756 : BitVec 32 := Scalar.muli arg13 c256_i32_2824
  let v3764 : Index := Scalar.indexCast v3756
  let c3_2828 : Index := 3#32
  ![v3764.toNat, 3]
@[reducible] def k0_t5_loop : Scf.Loop 32 :=
  let c0_i32_109 : BitVec 32 := 0#32
  let c4_i32_110 : BitVec 32 := 4#32
  let v141 : BitVec 32 := Scalar.addi c0_i32_109 c4_i32_110
  let c1_i32_111 : BitVec 32 := 1#32
  ⟨c0_i32_109, v141, c1_i32_111⟩
def k0_off12 (k0_t5 : Fin k0_t5_loop.trips) : Fin 2 → Nat :=
  let c0_i32_109 : BitVec 32 := 0#32
  let c1_i32_111 : BitVec 32 := 1#32
  let arg13 : BitVec 32 := Scf.iv c0_i32_109 c1_i32_111 k0_t5
  let c256_i32_2824 : BitVec 32 := 256#32
  let v3756 : BitVec 32 := Scalar.muli arg13 c256_i32_2824
  let v3757 : Index := Scalar.indexCast v3756
  let c512_2825 : Index := 512#32
  ![v3757.toNat, 512]
def k0_off13 (k0_t5 : Fin k0_t5_loop.trips) : Fin 2 → Nat :=
  let c0_i32_109 : BitVec 32 := 0#32
  let c1_i32_111 : BitVec 32 := 1#32
  let arg13 : BitVec 32 := Scf.iv c0_i32_109 c1_i32_111 k0_t5
  let c256_i32_2824 : BitVec 32 := 256#32
  let v3756 : BitVec 32 := Scalar.muli arg13 c256_i32_2824
  let v3764 : Index := Scalar.indexCast v3756
  let c4_2828 : Index := 4#32
  ![v3764.toNat, 4]
@[reducible] def k0_t6_loop : Scf.Loop 32 :=
  let c0_i32_116 : BitVec 32 := 0#32
  let c4_i32_117 : BitVec 32 := 4#32
  let v148 : BitVec 32 := Scalar.addi c0_i32_116 c4_i32_117
  let c1_i32_118 : BitVec 32 := 1#32
  ⟨c0_i32_116, v148, c1_i32_118⟩
def k0_off14 (k0_t6 : Fin k0_t6_loop.trips) : Fin 2 → Nat :=
  let c0_i32_116 : BitVec 32 := 0#32
  let c1_i32_118 : BitVec 32 := 1#32
  let arg13 : BitVec 32 := Scf.iv c0_i32_116 c1_i32_118 k0_t6
  let c256_i32_2824 : BitVec 32 := 256#32
  let v3756 : BitVec 32 := Scalar.muli arg13 c256_i32_2824
  let v3757 : Index := Scalar.indexCast v3756
  let c640_2825 : Index := 640#32
  ![v3757.toNat, 640]
def k0_off15 (k0_t6 : Fin k0_t6_loop.trips) : Fin 2 → Nat :=
  let c0_i32_116 : BitVec 32 := 0#32
  let c1_i32_118 : BitVec 32 := 1#32
  let arg13 : BitVec 32 := Scf.iv c0_i32_116 c1_i32_118 k0_t6
  let c256_i32_2824 : BitVec 32 := 256#32
  let v3756 : BitVec 32 := Scalar.muli arg13 c256_i32_2824
  let v3764 : Index := Scalar.indexCast v3756
  let c5_2828 : Index := 5#32
  ![v3764.toNat, 5]
@[reducible] def k0_t7_loop : Scf.Loop 32 :=
  let c0_i32_123 : BitVec 32 := 0#32
  let c4_i32_124 : BitVec 32 := 4#32
  let v155 : BitVec 32 := Scalar.addi c0_i32_123 c4_i32_124
  let c1_i32_125 : BitVec 32 := 1#32
  ⟨c0_i32_123, v155, c1_i32_125⟩
def k0_off16 (k0_t7 : Fin k0_t7_loop.trips) : Fin 2 → Nat :=
  let c0_i32_123 : BitVec 32 := 0#32
  let c1_i32_125 : BitVec 32 := 1#32
  let arg13 : BitVec 32 := Scf.iv c0_i32_123 c1_i32_125 k0_t7
  let c256_i32_2824 : BitVec 32 := 256#32
  let v3756 : BitVec 32 := Scalar.muli arg13 c256_i32_2824
  let v3757 : Index := Scalar.indexCast v3756
  let c768_2825 : Index := 768#32
  ![v3757.toNat, 768]
def k0_off17 (k0_t7 : Fin k0_t7_loop.trips) : Fin 2 → Nat :=
  let c0_i32_123 : BitVec 32 := 0#32
  let c1_i32_125 : BitVec 32 := 1#32
  let arg13 : BitVec 32 := Scf.iv c0_i32_123 c1_i32_125 k0_t7
  let c256_i32_2824 : BitVec 32 := 256#32
  let v3756 : BitVec 32 := Scalar.muli arg13 c256_i32_2824
  let v3764 : Index := Scalar.indexCast v3756
  let c6_2828 : Index := 6#32
  ![v3764.toNat, 6]
@[reducible] def k0_t8_loop : Scf.Loop 32 :=
  let c0_i32_130 : BitVec 32 := 0#32
  let c4_i32_131 : BitVec 32 := 4#32
  let v162 : BitVec 32 := Scalar.addi c0_i32_130 c4_i32_131
  let c1_i32_132 : BitVec 32 := 1#32
  ⟨c0_i32_130, v162, c1_i32_132⟩
def k0_off18 (k0_t8 : Fin k0_t8_loop.trips) : Fin 2 → Nat :=
  let c0_i32_130 : BitVec 32 := 0#32
  let c1_i32_132 : BitVec 32 := 1#32
  let arg13 : BitVec 32 := Scf.iv c0_i32_130 c1_i32_132 k0_t8
  let c256_i32_2824 : BitVec 32 := 256#32
  let v3756 : BitVec 32 := Scalar.muli arg13 c256_i32_2824
  let v3757 : Index := Scalar.indexCast v3756
  let c896_2825 : Index := 896#32
  ![v3757.toNat, 896]
def k0_off19 (k0_t8 : Fin k0_t8_loop.trips) : Fin 2 → Nat :=
  let c0_i32_130 : BitVec 32 := 0#32
  let c1_i32_132 : BitVec 32 := 1#32
  let arg13 : BitVec 32 := Scf.iv c0_i32_130 c1_i32_132 k0_t8
  let c256_i32_2824 : BitVec 32 := 256#32
  let v3756 : BitVec 32 := Scalar.muli arg13 c256_i32_2824
  let v3764 : Index := Scalar.indexCast v3756
  let c7_2828 : Index := 7#32
  ![v3764.toNat, 7]
@[reducible] def k0_t9_loop : Scf.Loop 32 :=
  let c0_i32_137 : BitVec 32 := 0#32
  let c4_i32_138 : BitVec 32 := 4#32
  let v169 : BitVec 32 := Scalar.addi c0_i32_137 c4_i32_138
  let c1_i32_139 : BitVec 32 := 1#32
  ⟨c0_i32_137, v169, c1_i32_139⟩
def k0_off20 (k0_t9 : Fin k0_t9_loop.trips) : Fin 2 → Nat :=
  let c0_i32_137 : BitVec 32 := 0#32
  let c1_i32_139 : BitVec 32 := 1#32
  let arg13 : BitVec 32 := Scf.iv c0_i32_137 c1_i32_139 k0_t9
  let c256_i32_2824 : BitVec 32 := 256#32
  let v3756 : BitVec 32 := Scalar.muli arg13 c256_i32_2824
  let v3757 : Index := Scalar.indexCast v3756
  let c1024_2825 : Index := 1024#32
  ![v3757.toNat, 1024]
def k0_off21 (k0_t9 : Fin k0_t9_loop.trips) : Fin 2 → Nat :=
  let c0_i32_137 : BitVec 32 := 0#32
  let c1_i32_139 : BitVec 32 := 1#32
  let arg13 : BitVec 32 := Scf.iv c0_i32_137 c1_i32_139 k0_t9
  let c256_i32_2824 : BitVec 32 := 256#32
  let v3756 : BitVec 32 := Scalar.muli arg13 c256_i32_2824
  let v3764 : Index := Scalar.indexCast v3756
  let c8_2828 : Index := 8#32
  ![v3764.toNat, 8]
@[reducible] def k0_t10_loop : Scf.Loop 32 :=
  let c0_i32_144 : BitVec 32 := 0#32
  let c4_i32_145 : BitVec 32 := 4#32
  let v176 : BitVec 32 := Scalar.addi c0_i32_144 c4_i32_145
  let c1_i32_146 : BitVec 32 := 1#32
  ⟨c0_i32_144, v176, c1_i32_146⟩
def k0_off22 (k0_t10 : Fin k0_t10_loop.trips) : Fin 2 → Nat :=
  let c0_i32_144 : BitVec 32 := 0#32
  let c1_i32_146 : BitVec 32 := 1#32
  let arg13 : BitVec 32 := Scf.iv c0_i32_144 c1_i32_146 k0_t10
  let c256_i32_2824 : BitVec 32 := 256#32
  let v3756 : BitVec 32 := Scalar.muli arg13 c256_i32_2824
  let v3757 : Index := Scalar.indexCast v3756
  let c1152_2825 : Index := 1152#32
  ![v3757.toNat, 1152]
def k0_off23 (k0_t10 : Fin k0_t10_loop.trips) : Fin 2 → Nat :=
  let c0_i32_144 : BitVec 32 := 0#32
  let c1_i32_146 : BitVec 32 := 1#32
  let arg13 : BitVec 32 := Scf.iv c0_i32_144 c1_i32_146 k0_t10
  let c256_i32_2824 : BitVec 32 := 256#32
  let v3756 : BitVec 32 := Scalar.muli arg13 c256_i32_2824
  let v3764 : Index := Scalar.indexCast v3756
  let c9_2828 : Index := 9#32
  ![v3764.toNat, 9]
@[reducible] def k0_t11_loop : Scf.Loop 32 :=
  let c0_i32_151 : BitVec 32 := 0#32
  let c4_i32_152 : BitVec 32 := 4#32
  let v183 : BitVec 32 := Scalar.addi c0_i32_151 c4_i32_152
  let c1_i32_153 : BitVec 32 := 1#32
  ⟨c0_i32_151, v183, c1_i32_153⟩
def k0_off24 (k0_t11 : Fin k0_t11_loop.trips) : Fin 2 → Nat :=
  let c0_i32_151 : BitVec 32 := 0#32
  let c1_i32_153 : BitVec 32 := 1#32
  let arg13 : BitVec 32 := Scf.iv c0_i32_151 c1_i32_153 k0_t11
  let c256_i32_2824 : BitVec 32 := 256#32
  let v3756 : BitVec 32 := Scalar.muli arg13 c256_i32_2824
  let v3757 : Index := Scalar.indexCast v3756
  let c1280_2825 : Index := 1280#32
  ![v3757.toNat, 1280]
def k0_off25 (k0_t11 : Fin k0_t11_loop.trips) : Fin 2 → Nat :=
  let c0_i32_151 : BitVec 32 := 0#32
  let c1_i32_153 : BitVec 32 := 1#32
  let arg13 : BitVec 32 := Scf.iv c0_i32_151 c1_i32_153 k0_t11
  let c256_i32_2824 : BitVec 32 := 256#32
  let v3756 : BitVec 32 := Scalar.muli arg13 c256_i32_2824
  let v3764 : Index := Scalar.indexCast v3756
  let c10_2828 : Index := 10#32
  ![v3764.toNat, 10]
@[reducible] def k0_t12_loop : Scf.Loop 32 :=
  let c0_i32_158 : BitVec 32 := 0#32
  let c4_i32_159 : BitVec 32 := 4#32
  let v190 : BitVec 32 := Scalar.addi c0_i32_158 c4_i32_159
  let c1_i32_160 : BitVec 32 := 1#32
  ⟨c0_i32_158, v190, c1_i32_160⟩
def k0_off26 (k0_t12 : Fin k0_t12_loop.trips) : Fin 2 → Nat :=
  let c0_i32_158 : BitVec 32 := 0#32
  let c1_i32_160 : BitVec 32 := 1#32
  let arg13 : BitVec 32 := Scf.iv c0_i32_158 c1_i32_160 k0_t12
  let c256_i32_2824 : BitVec 32 := 256#32
  let v3756 : BitVec 32 := Scalar.muli arg13 c256_i32_2824
  let v3757 : Index := Scalar.indexCast v3756
  let c1408_2825 : Index := 1408#32
  ![v3757.toNat, 1408]
def k0_off27 (k0_t12 : Fin k0_t12_loop.trips) : Fin 2 → Nat :=
  let c0_i32_158 : BitVec 32 := 0#32
  let c1_i32_160 : BitVec 32 := 1#32
  let arg13 : BitVec 32 := Scf.iv c0_i32_158 c1_i32_160 k0_t12
  let c256_i32_2824 : BitVec 32 := 256#32
  let v3756 : BitVec 32 := Scalar.muli arg13 c256_i32_2824
  let v3764 : Index := Scalar.indexCast v3756
  let c11_2828 : Index := 11#32
  ![v3764.toNat, 11]
@[reducible] def k0_t13_loop : Scf.Loop 32 :=
  let c0_i32_165 : BitVec 32 := 0#32
  let c4_i32_166 : BitVec 32 := 4#32
  let v197 : BitVec 32 := Scalar.addi c0_i32_165 c4_i32_166
  let c1_i32_167 : BitVec 32 := 1#32
  ⟨c0_i32_165, v197, c1_i32_167⟩
def k0_off28 (k0_t13 : Fin k0_t13_loop.trips) : Fin 2 → Nat :=
  let c0_i32_165 : BitVec 32 := 0#32
  let c1_i32_167 : BitVec 32 := 1#32
  let arg13 : BitVec 32 := Scf.iv c0_i32_165 c1_i32_167 k0_t13
  let c256_i32_2824 : BitVec 32 := 256#32
  let v3756 : BitVec 32 := Scalar.muli arg13 c256_i32_2824
  let v3757 : Index := Scalar.indexCast v3756
  let c1536_2825 : Index := 1536#32
  ![v3757.toNat, 1536]
def k0_off29 (k0_t13 : Fin k0_t13_loop.trips) : Fin 2 → Nat :=
  let c0_i32_165 : BitVec 32 := 0#32
  let c1_i32_167 : BitVec 32 := 1#32
  let arg13 : BitVec 32 := Scf.iv c0_i32_165 c1_i32_167 k0_t13
  let c256_i32_2824 : BitVec 32 := 256#32
  let v3756 : BitVec 32 := Scalar.muli arg13 c256_i32_2824
  let v3764 : Index := Scalar.indexCast v3756
  let c12_2828 : Index := 12#32
  ![v3764.toNat, 12]
@[reducible] def k0_t14_loop : Scf.Loop 32 :=
  let c0_i32_172 : BitVec 32 := 0#32
  let c4_i32_173 : BitVec 32 := 4#32
  let v204 : BitVec 32 := Scalar.addi c0_i32_172 c4_i32_173
  let c1_i32_174 : BitVec 32 := 1#32
  ⟨c0_i32_172, v204, c1_i32_174⟩
def k0_off30 (k0_t14 : Fin k0_t14_loop.trips) : Fin 2 → Nat :=
  let c0_i32_172 : BitVec 32 := 0#32
  let c1_i32_174 : BitVec 32 := 1#32
  let arg13 : BitVec 32 := Scf.iv c0_i32_172 c1_i32_174 k0_t14
  let c256_i32_2824 : BitVec 32 := 256#32
  let v3756 : BitVec 32 := Scalar.muli arg13 c256_i32_2824
  let v3757 : Index := Scalar.indexCast v3756
  let c1664_2825 : Index := 1664#32
  ![v3757.toNat, 1664]
def k0_off31 (k0_t14 : Fin k0_t14_loop.trips) : Fin 2 → Nat :=
  let c0_i32_172 : BitVec 32 := 0#32
  let c1_i32_174 : BitVec 32 := 1#32
  let arg13 : BitVec 32 := Scf.iv c0_i32_172 c1_i32_174 k0_t14
  let c256_i32_2824 : BitVec 32 := 256#32
  let v3756 : BitVec 32 := Scalar.muli arg13 c256_i32_2824
  let v3764 : Index := Scalar.indexCast v3756
  let c13_2828 : Index := 13#32
  ![v3764.toNat, 13]
@[reducible] def k0_t15_loop : Scf.Loop 32 :=
  let c0_i32_179 : BitVec 32 := 0#32
  let c4_i32_180 : BitVec 32 := 4#32
  let v211 : BitVec 32 := Scalar.addi c0_i32_179 c4_i32_180
  let c1_i32_181 : BitVec 32 := 1#32
  ⟨c0_i32_179, v211, c1_i32_181⟩
def k0_off32 (k0_t15 : Fin k0_t15_loop.trips) : Fin 2 → Nat :=
  let c0_i32_179 : BitVec 32 := 0#32
  let c1_i32_181 : BitVec 32 := 1#32
  let arg13 : BitVec 32 := Scf.iv c0_i32_179 c1_i32_181 k0_t15
  let c256_i32_2824 : BitVec 32 := 256#32
  let v3756 : BitVec 32 := Scalar.muli arg13 c256_i32_2824
  let v3757 : Index := Scalar.indexCast v3756
  let c1792_2825 : Index := 1792#32
  ![v3757.toNat, 1792]
def k0_off33 (k0_t15 : Fin k0_t15_loop.trips) : Fin 2 → Nat :=
  let c0_i32_179 : BitVec 32 := 0#32
  let c1_i32_181 : BitVec 32 := 1#32
  let arg13 : BitVec 32 := Scf.iv c0_i32_179 c1_i32_181 k0_t15
  let c256_i32_2824 : BitVec 32 := 256#32
  let v3756 : BitVec 32 := Scalar.muli arg13 c256_i32_2824
  let v3764 : Index := Scalar.indexCast v3756
  let c14_2828 : Index := 14#32
  ![v3764.toNat, 14]
@[reducible] def k0_t16_loop : Scf.Loop 32 :=
  let c0_i32_186 : BitVec 32 := 0#32
  let c4_i32_187 : BitVec 32 := 4#32
  let v218 : BitVec 32 := Scalar.addi c0_i32_186 c4_i32_187
  let c1_i32_188 : BitVec 32 := 1#32
  ⟨c0_i32_186, v218, c1_i32_188⟩
def k0_off34 (k0_t16 : Fin k0_t16_loop.trips) : Fin 2 → Nat :=
  let c0_i32_186 : BitVec 32 := 0#32
  let c1_i32_188 : BitVec 32 := 1#32
  let arg13 : BitVec 32 := Scf.iv c0_i32_186 c1_i32_188 k0_t16
  let c256_i32_2824 : BitVec 32 := 256#32
  let v3756 : BitVec 32 := Scalar.muli arg13 c256_i32_2824
  let v3757 : Index := Scalar.indexCast v3756
  let c1920_2825 : Index := 1920#32
  ![v3757.toNat, 1920]
def k0_off35 (k0_t16 : Fin k0_t16_loop.trips) : Fin 2 → Nat :=
  let c0_i32_186 : BitVec 32 := 0#32
  let c1_i32_188 : BitVec 32 := 1#32
  let arg13 : BitVec 32 := Scf.iv c0_i32_186 c1_i32_188 k0_t16
  let c256_i32_2824 : BitVec 32 := 256#32
  let v3756 : BitVec 32 := Scalar.muli arg13 c256_i32_2824
  let v3764 : Index := Scalar.indexCast v3756
  let c15_2828 : Index := 15#32
  ![v3764.toNat, 15]
def k0_dev8 (d0 : Dev nD) : Nat :=
  let c0_i32_210 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_209 : BitVec 32 := 4#32
  let v232 : BitVec 32 := Scalar.muli v10 c4_i32_209
  let v233 : BitVec 32 := Scalar.addi c0_i32_210 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v234 : BitVec 32 := Scalar.muli v5 c2_i32_211
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v236 : BitVec 32 := Scalar.muli v8 c1_i32_212
  let v237 : BitVec 32 := Scalar.addi v235 v236
  v237.toNat
def k0_dev9 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_221 : BitVec 32 := 4#32
  let v246 : BitVec 32 := Scalar.muli v2 c4_i32_221
  let v247 : BitVec 32 := Scalar.addi c0_i32_222 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v248 : BitVec 32 := Scalar.muli v5 c2_i32_223
  let v249 : BitVec 32 := Scalar.addi v247 v248
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_224 : BitVec 32 := 1#32
  let v250 : BitVec 32 := Scalar.muli v11 c1_i32_224
  let v251 : BitVec 32 := Scalar.addi v249 v250
  v251.toNat
def k0_dev10 (d0 : Dev nD) : Nat :=
  let c0_i32_245 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_244 : BitVec 32 := 4#32
  let v271 : BitVec 32 := Scalar.muli v10 c4_i32_244
  let v272 : BitVec 32 := Scalar.addi c0_i32_245 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_246 : BitVec 32 := 2#32
  let v273 : BitVec 32 := Scalar.muli v5 c2_i32_246
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_247 : BitVec 32 := 1#32
  let v275 : BitVec 32 := Scalar.muli v8 c1_i32_247
  let v276 : BitVec 32 := Scalar.addi v274 v275
  v276.toNat
def k0_dev11 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v285 : BitVec 32 := Scalar.muli v2 c4_i32_256
  let v286 : BitVec 32 := Scalar.addi c0_i32_257 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v287 : BitVec 32 := Scalar.muli v5 c2_i32_258
  let v288 : BitVec 32 := Scalar.addi v286 v287
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_259 : BitVec 32 := 1#32
  let v289 : BitVec 32 := Scalar.muli v11 c1_i32_259
  let v290 : BitVec 32 := Scalar.addi v288 v289
  v290.toNat
def k0_off36 (d0 : Dev nD) (c0_i32_263 : BitVec 32) : Fin 3 → Nat :=
  let c0_264 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v301 : Index := Scalar.indexCast v300
  let c0_265 : Index := 0#32
  ![0, v301.toNat, 0]
def k0_off37 (d0 : Dev nD) (c0_i32_263 : BitVec 32) : Fin 3 → Nat :=
  let c1 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v305 : Index := Scalar.indexCast v300
  let c0_266 : Index := 0#32
  ![1, v305.toNat, 0]
def k0_off38 (d0 : Dev nD) (c0_i32_263 : BitVec 32) : Fin 3 → Nat :=
  let c0_280 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v325 : Index := Scalar.indexCast v300
  let c128_281 : Index := 128#32
  ![0, v325.toNat, 128]
def k0_off39 (d0 : Dev nD) (c0_i32_263 : BitVec 32) : Fin 3 → Nat :=
  let c1_282 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v329 : Index := Scalar.indexCast v300
  let c128_283 : Index := 128#32
  ![1, v329.toNat, 128]
def k0_off40 (d0 : Dev nD) (c0_i32_263 : BitVec 32) : Fin 3 → Nat :=
  let c0_297 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v349 : Index := Scalar.indexCast v300
  let c256_298 : Index := 256#32
  ![0, v349.toNat, 256]
def k0_off41 (d0 : Dev nD) (c0_i32_263 : BitVec 32) : Fin 3 → Nat :=
  let c1_299 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v353 : Index := Scalar.indexCast v300
  let c256_300 : Index := 256#32
  ![1, v353.toNat, 256]
def k0_off42 (d0 : Dev nD) (c0_i32_263 : BitVec 32) : Fin 3 → Nat :=
  let c0_313 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v373 : Index := Scalar.indexCast v300
  let c384_314 : Index := 384#32
  ![0, v373.toNat, 384]
def k0_off43 (d0 : Dev nD) (c0_i32_263 : BitVec 32) : Fin 3 → Nat :=
  let c1_315 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v377 : Index := Scalar.indexCast v300
  let c384_316 : Index := 384#32
  ![1, v377.toNat, 384]
def k0_off44 (d0 : Dev nD) (c0_i32_263 : BitVec 32) : Fin 3 → Nat :=
  let c0_329 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v397 : Index := Scalar.indexCast v300
  let c512_330 : Index := 512#32
  ![0, v397.toNat, 512]
def k0_off45 (d0 : Dev nD) (c0_i32_263 : BitVec 32) : Fin 3 → Nat :=
  let c1_331 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v401 : Index := Scalar.indexCast v300
  let c512_332 : Index := 512#32
  ![1, v401.toNat, 512]
def k0_off46 (d0 : Dev nD) (c0_i32_263 : BitVec 32) : Fin 3 → Nat :=
  let c0_345 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v421 : Index := Scalar.indexCast v300
  let c640_346 : Index := 640#32
  ![0, v421.toNat, 640]
def k0_off47 (d0 : Dev nD) (c0_i32_263 : BitVec 32) : Fin 3 → Nat :=
  let c1_347 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v425 : Index := Scalar.indexCast v300
  let c640_348 : Index := 640#32
  ![1, v425.toNat, 640]
def k0_off48 (d0 : Dev nD) (c0_i32_263 : BitVec 32) : Fin 3 → Nat :=
  let c0_361 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v445 : Index := Scalar.indexCast v300
  let c768_362 : Index := 768#32
  ![0, v445.toNat, 768]
def k0_off49 (d0 : Dev nD) (c0_i32_263 : BitVec 32) : Fin 3 → Nat :=
  let c1_363 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v449 : Index := Scalar.indexCast v300
  let c768_364 : Index := 768#32
  ![1, v449.toNat, 768]
def k0_off50 (d0 : Dev nD) (c0_i32_263 : BitVec 32) : Fin 3 → Nat :=
  let c0_377 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v469 : Index := Scalar.indexCast v300
  let c896_378 : Index := 896#32
  ![0, v469.toNat, 896]
def k0_off51 (d0 : Dev nD) (c0_i32_263 : BitVec 32) : Fin 3 → Nat :=
  let c1_379 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v473 : Index := Scalar.indexCast v300
  let c896_380 : Index := 896#32
  ![1, v473.toNat, 896]
def k0_off52 (d0 : Dev nD) (c0_i32_263 : BitVec 32) : Fin 3 → Nat :=
  let c0_393 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v493 : Index := Scalar.indexCast v300
  let c1024_394 : Index := 1024#32
  ![0, v493.toNat, 1024]
def k0_off53 (d0 : Dev nD) (c0_i32_263 : BitVec 32) : Fin 3 → Nat :=
  let c1_395 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v497 : Index := Scalar.indexCast v300
  let c1024_396 : Index := 1024#32
  ![1, v497.toNat, 1024]
def k0_off54 (d0 : Dev nD) (c0_i32_263 : BitVec 32) : Fin 3 → Nat :=
  let c0_409 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v517 : Index := Scalar.indexCast v300
  let c1152_410 : Index := 1152#32
  ![0, v517.toNat, 1152]
def k0_off55 (d0 : Dev nD) (c0_i32_263 : BitVec 32) : Fin 3 → Nat :=
  let c1_411 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v521 : Index := Scalar.indexCast v300
  let c1152_412 : Index := 1152#32
  ![1, v521.toNat, 1152]
def k0_off56 (d0 : Dev nD) (c0_i32_263 : BitVec 32) : Fin 3 → Nat :=
  let c0_425 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v541 : Index := Scalar.indexCast v300
  let c1280_426 : Index := 1280#32
  ![0, v541.toNat, 1280]
def k0_off57 (d0 : Dev nD) (c0_i32_263 : BitVec 32) : Fin 3 → Nat :=
  let c1_427 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v545 : Index := Scalar.indexCast v300
  let c1280_428 : Index := 1280#32
  ![1, v545.toNat, 1280]
def k0_off58 (d0 : Dev nD) (c0_i32_263 : BitVec 32) : Fin 3 → Nat :=
  let c0_441 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v565 : Index := Scalar.indexCast v300
  let c1408_442 : Index := 1408#32
  ![0, v565.toNat, 1408]
def k0_off59 (d0 : Dev nD) (c0_i32_263 : BitVec 32) : Fin 3 → Nat :=
  let c1_443 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v569 : Index := Scalar.indexCast v300
  let c1408_444 : Index := 1408#32
  ![1, v569.toNat, 1408]
def k0_off60 (d0 : Dev nD) (c0_i32_263 : BitVec 32) : Fin 3 → Nat :=
  let c0_457 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v589 : Index := Scalar.indexCast v300
  let c1536_458 : Index := 1536#32
  ![0, v589.toNat, 1536]
def k0_off61 (d0 : Dev nD) (c0_i32_263 : BitVec 32) : Fin 3 → Nat :=
  let c1_459 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v593 : Index := Scalar.indexCast v300
  let c1536_460 : Index := 1536#32
  ![1, v593.toNat, 1536]
def k0_off62 (d0 : Dev nD) (c0_i32_263 : BitVec 32) : Fin 3 → Nat :=
  let c0_473 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v613 : Index := Scalar.indexCast v300
  let c1664_474 : Index := 1664#32
  ![0, v613.toNat, 1664]
def k0_off63 (d0 : Dev nD) (c0_i32_263 : BitVec 32) : Fin 3 → Nat :=
  let c1_475 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v617 : Index := Scalar.indexCast v300
  let c1664_476 : Index := 1664#32
  ![1, v617.toNat, 1664]
def k0_off64 (d0 : Dev nD) (c0_i32_263 : BitVec 32) : Fin 3 → Nat :=
  let c0_489 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v637 : Index := Scalar.indexCast v300
  let c1792_490 : Index := 1792#32
  ![0, v637.toNat, 1792]
def k0_off65 (d0 : Dev nD) (c0_i32_263 : BitVec 32) : Fin 3 → Nat :=
  let c1_491 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v641 : Index := Scalar.indexCast v300
  let c1792_492 : Index := 1792#32
  ![1, v641.toNat, 1792]
def k0_off66 (d0 : Dev nD) (c0_i32_263 : BitVec 32) : Fin 3 → Nat :=
  let c0_505 : Index := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v661 : Index := Scalar.indexCast v300
  let c1920_506 : Index := 1920#32
  ![0, v661.toNat, 1920]
def k0_off67 (d0 : Dev nD) (c0_i32_263 : BitVec 32) : Fin 3 → Nat :=
  let c1_507 : Index := 1#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c256_i32_262 : BitVec 32 := 256#32
  let v299 : BitVec 32 := Scalar.muli v32 c256_i32_262
  let v300 : BitVec 32 := Scalar.addi v299 c0_i32_263
  let v665 : Index := Scalar.indexCast v300
  let c1920_508 : Index := 1920#32
  ![1, v665.toNat, 1920]
def k0_dev12 (d0 : Dev nD) : Nat :=
  let c0_i32_541 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_540 : BitVec 32 := 4#32
  let v698 : BitVec 32 := Scalar.muli v10 c4_i32_540
  let v699 : BitVec 32 := Scalar.addi c0_i32_541 v698
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_542 : BitVec 32 := 2#32
  let v700 : BitVec 32 := Scalar.muli v5 c2_i32_542
  let v701 : BitVec 32 := Scalar.addi v699 v700
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_543 : BitVec 32 := 1#32
  let v702 : BitVec 32 := Scalar.muli v8 c1_i32_543
  let v703 : BitVec 32 := Scalar.addi v701 v702
  v703.toNat
def k0_dev13 (d0 : Dev nD) : Nat :=
  let c0_i32_553 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_552 : BitVec 32 := 4#32
  let v712 : BitVec 32 := Scalar.muli v2 c4_i32_552
  let v713 : BitVec 32 := Scalar.addi c0_i32_553 v712
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_554 : BitVec 32 := 2#32
  let v714 : BitVec 32 := Scalar.muli v5 c2_i32_554
  let v715 : BitVec 32 := Scalar.addi v713 v714
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_555 : BitVec 32 := 1#32
  let v716 : BitVec 32 := Scalar.muli v11 c1_i32_555
  let v717 : BitVec 32 := Scalar.addi v715 v716
  v717.toNat
def k0_dev14 (d0 : Dev nD) : Nat :=
  let c0_i32_576 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_575 : BitVec 32 := 4#32
  let v737 : BitVec 32 := Scalar.muli v10 c4_i32_575
  let v738 : BitVec 32 := Scalar.addi c0_i32_576 v737
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_577 : BitVec 32 := 2#32
  let v739 : BitVec 32 := Scalar.muli v5 c2_i32_577
  let v740 : BitVec 32 := Scalar.addi v738 v739
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_578 : BitVec 32 := 1#32
  let v741 : BitVec 32 := Scalar.muli v8 c1_i32_578
  let v742 : BitVec 32 := Scalar.addi v740 v741
  v742.toNat
def k0_dev15 (d0 : Dev nD) : Nat :=
  let c0_i32_588 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_587 : BitVec 32 := 4#32
  let v751 : BitVec 32 := Scalar.muli v2 c4_i32_587
  let v752 : BitVec 32 := Scalar.addi c0_i32_588 v751
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_589 : BitVec 32 := 2#32
  let v753 : BitVec 32 := Scalar.muli v5 c2_i32_589
  let v754 : BitVec 32 := Scalar.addi v752 v753
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_590 : BitVec 32 := 1#32
  let v755 : BitVec 32 := Scalar.muli v11 c1_i32_590
  let v756 : BitVec 32 := Scalar.addi v754 v755
  v756.toNat
def k0_off68 (d0 : Dev nD) (c0_i32_868 : BitVec 32) : Fin 3 → Nat :=
  let c0_i32_870 : BitVec 32 := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_867 : BitVec 32 := 256#32
  let v1151 : BitVec 32 := Scalar.muli v35 c256_i32_867
  let v1152 : BitVec 32 := Scalar.addi v1151 c0_i32_868
  let c0_i32_879 : BitVec 32 := 0#32
  ![0, v1152.toNat, 0]
def k0_off69 (d0 : Dev nD) (c0_i32_868 : BitVec 32) : Fin 3 → Nat :=
  let c1_i32_882 : BitVec 32 := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_867 : BitVec 32 := 256#32
  let v1151 : BitVec 32 := Scalar.muli v35 c256_i32_867
  let v1152 : BitVec 32 := Scalar.addi v1151 c0_i32_868
  let c0_i32_891 : BitVec 32 := 0#32
  ![1, v1152.toNat, 0]
def k0_off70 (d0 : Dev nD) (c0_i32_894 : BitVec 32) : Fin 3 → Nat :=
  let c0_895 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1179 : Index := Scalar.indexCast v1178
  let c0_896 : Index := 0#32
  ![0, v1179.toNat, 0]
def k0_off71 (d0 : Dev nD) (c0_i32_894 : BitVec 32) : Fin 3 → Nat :=
  let c1_897 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1183 : Index := Scalar.indexCast v1178
  let c0_898 : Index := 0#32
  ![1, v1183.toNat, 0]
def k0_off72 (d0 : Dev nD) (c0_i32_894 : BitVec 32) : Fin 3 → Nat :=
  let c0_912 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1203 : Index := Scalar.indexCast v1178
  let c128_913 : Index := 128#32
  ![0, v1203.toNat, 128]
def k0_off73 (d0 : Dev nD) (c0_i32_894 : BitVec 32) : Fin 3 → Nat :=
  let c1_914 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1207 : Index := Scalar.indexCast v1178
  let c128_915 : Index := 128#32
  ![1, v1207.toNat, 128]
def k0_off74 (d0 : Dev nD) (c0_i32_894 : BitVec 32) : Fin 3 → Nat :=
  let c0_929 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1227 : Index := Scalar.indexCast v1178
  let c256_930 : Index := 256#32
  ![0, v1227.toNat, 256]
def k0_off75 (d0 : Dev nD) (c0_i32_894 : BitVec 32) : Fin 3 → Nat :=
  let c1_931 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1231 : Index := Scalar.indexCast v1178
  let c256_932 : Index := 256#32
  ![1, v1231.toNat, 256]
def k0_off76 (d0 : Dev nD) (c0_i32_894 : BitVec 32) : Fin 3 → Nat :=
  let c0_946 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1251 : Index := Scalar.indexCast v1178
  let c384_947 : Index := 384#32
  ![0, v1251.toNat, 384]
def k0_off77 (d0 : Dev nD) (c0_i32_894 : BitVec 32) : Fin 3 → Nat :=
  let c1_948 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1255 : Index := Scalar.indexCast v1178
  let c384_949 : Index := 384#32
  ![1, v1255.toNat, 384]
def k0_off78 (d0 : Dev nD) (c0_i32_894 : BitVec 32) : Fin 3 → Nat :=
  let c0_963 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1275 : Index := Scalar.indexCast v1178
  let c512_964 : Index := 512#32
  ![0, v1275.toNat, 512]
def k0_off79 (d0 : Dev nD) (c0_i32_894 : BitVec 32) : Fin 3 → Nat :=
  let c1_965 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1279 : Index := Scalar.indexCast v1178
  let c512_966 : Index := 512#32
  ![1, v1279.toNat, 512]
def k0_off80 (d0 : Dev nD) (c0_i32_894 : BitVec 32) : Fin 3 → Nat :=
  let c0_980 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1299 : Index := Scalar.indexCast v1178
  let c640_981 : Index := 640#32
  ![0, v1299.toNat, 640]
def k0_off81 (d0 : Dev nD) (c0_i32_894 : BitVec 32) : Fin 3 → Nat :=
  let c1_982 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1303 : Index := Scalar.indexCast v1178
  let c640_983 : Index := 640#32
  ![1, v1303.toNat, 640]
def k0_off82 (d0 : Dev nD) (c0_i32_894 : BitVec 32) : Fin 3 → Nat :=
  let c0_997 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1323 : Index := Scalar.indexCast v1178
  let c768_998 : Index := 768#32
  ![0, v1323.toNat, 768]
def k0_off83 (d0 : Dev nD) (c0_i32_894 : BitVec 32) : Fin 3 → Nat :=
  let c1_999 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1327 : Index := Scalar.indexCast v1178
  let c768_1000 : Index := 768#32
  ![1, v1327.toNat, 768]
def k0_off84 (d0 : Dev nD) (c0_i32_894 : BitVec 32) : Fin 3 → Nat :=
  let c0_1014 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1347 : Index := Scalar.indexCast v1178
  let c896_1015 : Index := 896#32
  ![0, v1347.toNat, 896]
def k0_off85 (d0 : Dev nD) (c0_i32_894 : BitVec 32) : Fin 3 → Nat :=
  let c1_1016 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1351 : Index := Scalar.indexCast v1178
  let c896_1017 : Index := 896#32
  ![1, v1351.toNat, 896]
def k0_off86 (d0 : Dev nD) (c0_i32_894 : BitVec 32) : Fin 3 → Nat :=
  let c0_1031 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1371 : Index := Scalar.indexCast v1178
  let c1024_1032 : Index := 1024#32
  ![0, v1371.toNat, 1024]
def k0_off87 (d0 : Dev nD) (c0_i32_894 : BitVec 32) : Fin 3 → Nat :=
  let c1_1033 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1375 : Index := Scalar.indexCast v1178
  let c1024_1034 : Index := 1024#32
  ![1, v1375.toNat, 1024]
def k0_off88 (d0 : Dev nD) (c0_i32_894 : BitVec 32) : Fin 3 → Nat :=
  let c0_1048 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1395 : Index := Scalar.indexCast v1178
  let c1152_1049 : Index := 1152#32
  ![0, v1395.toNat, 1152]
def k0_off89 (d0 : Dev nD) (c0_i32_894 : BitVec 32) : Fin 3 → Nat :=
  let c1_1050 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1399 : Index := Scalar.indexCast v1178
  let c1152_1051 : Index := 1152#32
  ![1, v1399.toNat, 1152]
def k0_off90 (d0 : Dev nD) (c0_i32_894 : BitVec 32) : Fin 3 → Nat :=
  let c0_1065 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1419 : Index := Scalar.indexCast v1178
  let c1280_1066 : Index := 1280#32
  ![0, v1419.toNat, 1280]
def k0_off91 (d0 : Dev nD) (c0_i32_894 : BitVec 32) : Fin 3 → Nat :=
  let c1_1067 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1423 : Index := Scalar.indexCast v1178
  let c1280_1068 : Index := 1280#32
  ![1, v1423.toNat, 1280]
def k0_off92 (d0 : Dev nD) (c0_i32_894 : BitVec 32) : Fin 3 → Nat :=
  let c0_1082 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1443 : Index := Scalar.indexCast v1178
  let c1408_1083 : Index := 1408#32
  ![0, v1443.toNat, 1408]
def k0_off93 (d0 : Dev nD) (c0_i32_894 : BitVec 32) : Fin 3 → Nat :=
  let c1_1084 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1447 : Index := Scalar.indexCast v1178
  let c1408_1085 : Index := 1408#32
  ![1, v1447.toNat, 1408]
def k0_off94 (d0 : Dev nD) (c0_i32_894 : BitVec 32) : Fin 3 → Nat :=
  let c0_1099 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1467 : Index := Scalar.indexCast v1178
  let c1536_1100 : Index := 1536#32
  ![0, v1467.toNat, 1536]
def k0_off95 (d0 : Dev nD) (c0_i32_894 : BitVec 32) : Fin 3 → Nat :=
  let c1_1101 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1471 : Index := Scalar.indexCast v1178
  let c1536_1102 : Index := 1536#32
  ![1, v1471.toNat, 1536]
def k0_off96 (d0 : Dev nD) (c0_i32_894 : BitVec 32) : Fin 3 → Nat :=
  let c0_1116 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1491 : Index := Scalar.indexCast v1178
  let c1664_1117 : Index := 1664#32
  ![0, v1491.toNat, 1664]
def k0_off97 (d0 : Dev nD) (c0_i32_894 : BitVec 32) : Fin 3 → Nat :=
  let c1_1118 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1495 : Index := Scalar.indexCast v1178
  let c1664_1119 : Index := 1664#32
  ![1, v1495.toNat, 1664]
def k0_off98 (d0 : Dev nD) (c0_i32_894 : BitVec 32) : Fin 3 → Nat :=
  let c0_1133 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1515 : Index := Scalar.indexCast v1178
  let c1792_1134 : Index := 1792#32
  ![0, v1515.toNat, 1792]
def k0_off99 (d0 : Dev nD) (c0_i32_894 : BitVec 32) : Fin 3 → Nat :=
  let c1_1135 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1519 : Index := Scalar.indexCast v1178
  let c1792_1136 : Index := 1792#32
  ![1, v1519.toNat, 1792]
def k0_off100 (d0 : Dev nD) (c0_i32_894 : BitVec 32) : Fin 3 → Nat :=
  let c0_1150 : Index := 0#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1539 : Index := Scalar.indexCast v1178
  let c1920_1151 : Index := 1920#32
  ![0, v1539.toNat, 1920]
def k0_off101 (d0 : Dev nD) (c0_i32_894 : BitVec 32) : Fin 3 → Nat :=
  let c1_1152 : Index := 1#32
  let c2_i32_22 : BitVec 32 := 2#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_21 v2
  let v34 : BitVec 32 := Scalar.muli c2_i32_22 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32_893 : BitVec 32 := 256#32
  let v1177 : BitVec 32 := Scalar.muli v35 c256_i32_893
  let v1178 : BitVec 32 := Scalar.addi v1177 c0_i32_894
  let v1543 : Index := Scalar.indexCast v1178
  let c1920_1153 : Index := 1920#32
  ![1, v1543.toNat, 1920]
def k0_dev16 (d0 : Dev nD) : Nat :=
  let c0_i32_1188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1187 : BitVec 32 := 4#32
  let v1577 : BitVec 32 := Scalar.muli v2 c4_i32_1187
  let v1578 : BitVec 32 := Scalar.addi c0_i32_1188 v1577
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1189 : BitVec 32 := 2#32
  let v1579 : BitVec 32 := Scalar.muli v5 c2_i32_1189
  let v1580 : BitVec 32 := Scalar.addi v1578 v1579
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1190 : BitVec 32 := 1#32
  let v1581 : BitVec 32 := Scalar.muli v11 c1_i32_1190
  let v1582 : BitVec 32 := Scalar.addi v1580 v1581
  v1582.toNat
def k0_dev17 (d0 : Dev nD) : Nat :=
  let c0_i32_1212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1211 : BitVec 32 := 4#32
  let v1603 : BitVec 32 := Scalar.muli v2 c4_i32_1211
  let v1604 : BitVec 32 := Scalar.addi c0_i32_1212 v1603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1213 : BitVec 32 := 2#32
  let v1605 : BitVec 32 := Scalar.muli v5 c2_i32_1213
  let v1606 : BitVec 32 := Scalar.addi v1604 v1605
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1214 : BitVec 32 := 1#32
  let v1607 : BitVec 32 := Scalar.muli v11 c1_i32_1214
  let v1608 : BitVec 32 := Scalar.addi v1606 v1607
  v1608.toNat
def k0_off102 (d0 : Dev nD) (c0_i32_1492 : BitVec 32) : Fin 3 → Nat :=
  let c0_i32_1494 : BitVec 32 := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1491 : BitVec 32 := 256#32
  let v2003 : BitVec 32 := Scalar.muli v38 c256_i32_1491
  let v2004 : BitVec 32 := Scalar.addi v2003 c0_i32_1492
  let c0_i32_1503 : BitVec 32 := 0#32
  ![0, v2004.toNat, 0]
def k0_dev18 (d0 : Dev nD) : Nat :=
  let c0_i32_1512 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1511 : BitVec 32 := 4#32
  let v2017 : BitVec 32 := Scalar.muli v10 c4_i32_1511
  let v2018 : BitVec 32 := Scalar.addi c0_i32_1512 v2017
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1513 : BitVec 32 := 2#32
  let v2019 : BitVec 32 := Scalar.muli v5 c2_i32_1513
  let v2020 : BitVec 32 := Scalar.addi v2018 v2019
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1514 : BitVec 32 := 1#32
  let v2021 : BitVec 32 := Scalar.muli v8 c1_i32_1514
  let v2022 : BitVec 32 := Scalar.addi v2020 v2021
  v2022.toNat
def k0_off103 (d0 : Dev nD) (c0_i32_1492 : BitVec 32) : Fin 3 → Nat :=
  let c1_i32_1518 : BitVec 32 := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1491 : BitVec 32 := 256#32
  let v2003 : BitVec 32 := Scalar.muli v38 c256_i32_1491
  let v2004 : BitVec 32 := Scalar.addi v2003 c0_i32_1492
  let c0_i32_1527 : BitVec 32 := 0#32
  ![1, v2004.toNat, 0]
def k0_dev19 (d0 : Dev nD) : Nat :=
  let c0_i32_1536 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1535 : BitVec 32 := 4#32
  let v2043 : BitVec 32 := Scalar.muli v10 c4_i32_1535
  let v2044 : BitVec 32 := Scalar.addi c0_i32_1536 v2043
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1537 : BitVec 32 := 2#32
  let v2045 : BitVec 32 := Scalar.muli v5 c2_i32_1537
  let v2046 : BitVec 32 := Scalar.addi v2044 v2045
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1538 : BitVec 32 := 1#32
  let v2047 : BitVec 32 := Scalar.muli v8 c1_i32_1538
  let v2048 : BitVec 32 := Scalar.addi v2046 v2047
  v2048.toNat
def k0_off104 (d0 : Dev nD) (c0_i32_1542 : BitVec 32) : Fin 3 → Nat :=
  let c0_1543 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2059 : Index := Scalar.indexCast v2058
  let c0_1544 : Index := 0#32
  ![0, v2059.toNat, 0]
def k0_off105 (d0 : Dev nD) (c0_i32_1542 : BitVec 32) : Fin 3 → Nat :=
  let c1_1545 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2063 : Index := Scalar.indexCast v2058
  let c0_1546 : Index := 0#32
  ![1, v2063.toNat, 0]
def k0_off106 (d0 : Dev nD) (c0_i32_1542 : BitVec 32) : Fin 3 → Nat :=
  let c0_1560 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2083 : Index := Scalar.indexCast v2058
  let c128_1561 : Index := 128#32
  ![0, v2083.toNat, 128]
def k0_off107 (d0 : Dev nD) (c0_i32_1542 : BitVec 32) : Fin 3 → Nat :=
  let c1_1562 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2087 : Index := Scalar.indexCast v2058
  let c128_1563 : Index := 128#32
  ![1, v2087.toNat, 128]
def k0_off108 (d0 : Dev nD) (c0_i32_1542 : BitVec 32) : Fin 3 → Nat :=
  let c0_1577 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2107 : Index := Scalar.indexCast v2058
  let c256_1578 : Index := 256#32
  ![0, v2107.toNat, 256]
def k0_off109 (d0 : Dev nD) (c0_i32_1542 : BitVec 32) : Fin 3 → Nat :=
  let c1_1579 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2111 : Index := Scalar.indexCast v2058
  let c256_1580 : Index := 256#32
  ![1, v2111.toNat, 256]
def k0_off110 (d0 : Dev nD) (c0_i32_1542 : BitVec 32) : Fin 3 → Nat :=
  let c0_1594 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2131 : Index := Scalar.indexCast v2058
  let c384_1595 : Index := 384#32
  ![0, v2131.toNat, 384]
def k0_off111 (d0 : Dev nD) (c0_i32_1542 : BitVec 32) : Fin 3 → Nat :=
  let c1_1596 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2135 : Index := Scalar.indexCast v2058
  let c384_1597 : Index := 384#32
  ![1, v2135.toNat, 384]
def k0_off112 (d0 : Dev nD) (c0_i32_1542 : BitVec 32) : Fin 3 → Nat :=
  let c0_1611 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2155 : Index := Scalar.indexCast v2058
  let c512_1612 : Index := 512#32
  ![0, v2155.toNat, 512]
def k0_off113 (d0 : Dev nD) (c0_i32_1542 : BitVec 32) : Fin 3 → Nat :=
  let c1_1613 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2159 : Index := Scalar.indexCast v2058
  let c512_1614 : Index := 512#32
  ![1, v2159.toNat, 512]
def k0_off114 (d0 : Dev nD) (c0_i32_1542 : BitVec 32) : Fin 3 → Nat :=
  let c0_1628 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2179 : Index := Scalar.indexCast v2058
  let c640_1629 : Index := 640#32
  ![0, v2179.toNat, 640]
def k0_off115 (d0 : Dev nD) (c0_i32_1542 : BitVec 32) : Fin 3 → Nat :=
  let c1_1630 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2183 : Index := Scalar.indexCast v2058
  let c640_1631 : Index := 640#32
  ![1, v2183.toNat, 640]
def k0_off116 (d0 : Dev nD) (c0_i32_1542 : BitVec 32) : Fin 3 → Nat :=
  let c0_1645 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2203 : Index := Scalar.indexCast v2058
  let c768_1646 : Index := 768#32
  ![0, v2203.toNat, 768]
def k0_off117 (d0 : Dev nD) (c0_i32_1542 : BitVec 32) : Fin 3 → Nat :=
  let c1_1647 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2207 : Index := Scalar.indexCast v2058
  let c768_1648 : Index := 768#32
  ![1, v2207.toNat, 768]
def k0_off118 (d0 : Dev nD) (c0_i32_1542 : BitVec 32) : Fin 3 → Nat :=
  let c0_1662 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2227 : Index := Scalar.indexCast v2058
  let c896_1663 : Index := 896#32
  ![0, v2227.toNat, 896]
def k0_off119 (d0 : Dev nD) (c0_i32_1542 : BitVec 32) : Fin 3 → Nat :=
  let c1_1664 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2231 : Index := Scalar.indexCast v2058
  let c896_1665 : Index := 896#32
  ![1, v2231.toNat, 896]
def k0_off120 (d0 : Dev nD) (c0_i32_1542 : BitVec 32) : Fin 3 → Nat :=
  let c0_1679 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2251 : Index := Scalar.indexCast v2058
  let c1024_1680 : Index := 1024#32
  ![0, v2251.toNat, 1024]
def k0_off121 (d0 : Dev nD) (c0_i32_1542 : BitVec 32) : Fin 3 → Nat :=
  let c1_1681 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2255 : Index := Scalar.indexCast v2058
  let c1024_1682 : Index := 1024#32
  ![1, v2255.toNat, 1024]
def k0_off122 (d0 : Dev nD) (c0_i32_1542 : BitVec 32) : Fin 3 → Nat :=
  let c0_1696 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2275 : Index := Scalar.indexCast v2058
  let c1152_1697 : Index := 1152#32
  ![0, v2275.toNat, 1152]
def k0_off123 (d0 : Dev nD) (c0_i32_1542 : BitVec 32) : Fin 3 → Nat :=
  let c1_1698 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2279 : Index := Scalar.indexCast v2058
  let c1152_1699 : Index := 1152#32
  ![1, v2279.toNat, 1152]
def k0_off124 (d0 : Dev nD) (c0_i32_1542 : BitVec 32) : Fin 3 → Nat :=
  let c0_1713 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2299 : Index := Scalar.indexCast v2058
  let c1280_1714 : Index := 1280#32
  ![0, v2299.toNat, 1280]
def k0_off125 (d0 : Dev nD) (c0_i32_1542 : BitVec 32) : Fin 3 → Nat :=
  let c1_1715 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2303 : Index := Scalar.indexCast v2058
  let c1280_1716 : Index := 1280#32
  ![1, v2303.toNat, 1280]
def k0_off126 (d0 : Dev nD) (c0_i32_1542 : BitVec 32) : Fin 3 → Nat :=
  let c0_1730 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2323 : Index := Scalar.indexCast v2058
  let c1408_1731 : Index := 1408#32
  ![0, v2323.toNat, 1408]
def k0_off127 (d0 : Dev nD) (c0_i32_1542 : BitVec 32) : Fin 3 → Nat :=
  let c1_1732 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2327 : Index := Scalar.indexCast v2058
  let c1408_1733 : Index := 1408#32
  ![1, v2327.toNat, 1408]
def k0_off128 (d0 : Dev nD) (c0_i32_1542 : BitVec 32) : Fin 3 → Nat :=
  let c0_1747 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2347 : Index := Scalar.indexCast v2058
  let c1536_1748 : Index := 1536#32
  ![0, v2347.toNat, 1536]
def k0_off129 (d0 : Dev nD) (c0_i32_1542 : BitVec 32) : Fin 3 → Nat :=
  let c1_1749 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2351 : Index := Scalar.indexCast v2058
  let c1536_1750 : Index := 1536#32
  ![1, v2351.toNat, 1536]
def k0_off130 (d0 : Dev nD) (c0_i32_1542 : BitVec 32) : Fin 3 → Nat :=
  let c0_1764 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2371 : Index := Scalar.indexCast v2058
  let c1664_1765 : Index := 1664#32
  ![0, v2371.toNat, 1664]
def k0_off131 (d0 : Dev nD) (c0_i32_1542 : BitVec 32) : Fin 3 → Nat :=
  let c1_1766 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2375 : Index := Scalar.indexCast v2058
  let c1664_1767 : Index := 1664#32
  ![1, v2375.toNat, 1664]
def k0_off132 (d0 : Dev nD) (c0_i32_1542 : BitVec 32) : Fin 3 → Nat :=
  let c0_1781 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2395 : Index := Scalar.indexCast v2058
  let c1792_1782 : Index := 1792#32
  ![0, v2395.toNat, 1792]
def k0_off133 (d0 : Dev nD) (c0_i32_1542 : BitVec 32) : Fin 3 → Nat :=
  let c1_1783 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2399 : Index := Scalar.indexCast v2058
  let c1792_1784 : Index := 1792#32
  ![1, v2399.toNat, 1792]
def k0_off134 (d0 : Dev nD) (c0_i32_1542 : BitVec 32) : Fin 3 → Nat :=
  let c0_1798 : Index := 0#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2419 : Index := Scalar.indexCast v2058
  let c1920_1799 : Index := 1920#32
  ![0, v2419.toNat, 1920]
def k0_off135 (d0 : Dev nD) (c0_i32_1542 : BitVec 32) : Fin 3 → Nat :=
  let c1_1800 : Index := 1#32
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c2_i32_23 v2
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let v38 : BitVec 32 := Scalar.addi v36 v37
  let c256_i32_1541 : BitVec 32 := 256#32
  let v2057 : BitVec 32 := Scalar.muli v38 c256_i32_1541
  let v2058 : BitVec 32 := Scalar.addi v2057 c0_i32_1542
  let v2423 : Index := Scalar.indexCast v2058
  let c1920_1801 : Index := 1920#32
  ![1, v2423.toNat, 1920]
def k0_off136 (d0 : Dev nD) : Fin 3 → Nat :=
  let c0_i32_2117 : BitVec 32 := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2115 : BitVec 32 := 256#32
  let v2855 : BitVec 32 := Scalar.muli v42 c256_i32_2115
  let c0_i32_2126 : BitVec 32 := 0#32
  ![0, v2855.toNat, 0]
def k0_off137 (d0 : Dev nD) : Fin 3 → Nat :=
  let c1_i32_2130 : BitVec 32 := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2128 : BitVec 32 := 256#32
  let v2868 : BitVec 32 := Scalar.muli v42 c256_i32_2128
  let c0_i32_2139 : BitVec 32 := 0#32
  ![1, v2868.toNat, 0]
def k0_off138 (d0 : Dev nD) : Fin 3 → Nat :=
  let c0_2142 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2882 : Index := Scalar.indexCast v2881
  let c0_2143 : Index := 0#32
  ![0, v2882.toNat, 0]
def k0_off139 (d0 : Dev nD) : Fin 3 → Nat :=
  let c1_2144 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2886 : Index := Scalar.indexCast v2881
  let c0_2145 : Index := 0#32
  ![1, v2886.toNat, 0]
def k0_off140 (d0 : Dev nD) : Fin 3 → Nat :=
  let c0_2159 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2906 : Index := Scalar.indexCast v2881
  let c128_2160 : Index := 128#32
  ![0, v2906.toNat, 128]
def k0_off141 (d0 : Dev nD) : Fin 3 → Nat :=
  let c1_2161 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2910 : Index := Scalar.indexCast v2881
  let c128_2162 : Index := 128#32
  ![1, v2910.toNat, 128]
def k0_off142 (d0 : Dev nD) : Fin 3 → Nat :=
  let c0_2176 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2930 : Index := Scalar.indexCast v2881
  let c256_2177 : Index := 256#32
  ![0, v2930.toNat, 256]
def k0_off143 (d0 : Dev nD) : Fin 3 → Nat :=
  let c1_2178 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2934 : Index := Scalar.indexCast v2881
  let c256_2179 : Index := 256#32
  ![1, v2934.toNat, 256]
def k0_off144 (d0 : Dev nD) : Fin 3 → Nat :=
  let c0_2193 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2954 : Index := Scalar.indexCast v2881
  let c384_2194 : Index := 384#32
  ![0, v2954.toNat, 384]
def k0_off145 (d0 : Dev nD) : Fin 3 → Nat :=
  let c1_2195 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2958 : Index := Scalar.indexCast v2881
  let c384_2196 : Index := 384#32
  ![1, v2958.toNat, 384]
def k0_off146 (d0 : Dev nD) : Fin 3 → Nat :=
  let c0_2210 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2978 : Index := Scalar.indexCast v2881
  let c512_2211 : Index := 512#32
  ![0, v2978.toNat, 512]
def k0_off147 (d0 : Dev nD) : Fin 3 → Nat :=
  let c1_2212 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v2982 : Index := Scalar.indexCast v2881
  let c512_2213 : Index := 512#32
  ![1, v2982.toNat, 512]
def k0_off148 (d0 : Dev nD) : Fin 3 → Nat :=
  let c0_2227 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3002 : Index := Scalar.indexCast v2881
  let c640_2228 : Index := 640#32
  ![0, v3002.toNat, 640]
def k0_off149 (d0 : Dev nD) : Fin 3 → Nat :=
  let c1_2229 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3006 : Index := Scalar.indexCast v2881
  let c640_2230 : Index := 640#32
  ![1, v3006.toNat, 640]
def k0_off150 (d0 : Dev nD) : Fin 3 → Nat :=
  let c0_2244 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3026 : Index := Scalar.indexCast v2881
  let c768_2245 : Index := 768#32
  ![0, v3026.toNat, 768]
def k0_off151 (d0 : Dev nD) : Fin 3 → Nat :=
  let c1_2246 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3030 : Index := Scalar.indexCast v2881
  let c768_2247 : Index := 768#32
  ![1, v3030.toNat, 768]
def k0_off152 (d0 : Dev nD) : Fin 3 → Nat :=
  let c0_2261 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3050 : Index := Scalar.indexCast v2881
  let c896_2262 : Index := 896#32
  ![0, v3050.toNat, 896]
def k0_off153 (d0 : Dev nD) : Fin 3 → Nat :=
  let c1_2263 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3054 : Index := Scalar.indexCast v2881
  let c896_2264 : Index := 896#32
  ![1, v3054.toNat, 896]
def k0_off154 (d0 : Dev nD) : Fin 3 → Nat :=
  let c0_2278 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3074 : Index := Scalar.indexCast v2881
  let c1024_2279 : Index := 1024#32
  ![0, v3074.toNat, 1024]
def k0_off155 (d0 : Dev nD) : Fin 3 → Nat :=
  let c1_2280 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3078 : Index := Scalar.indexCast v2881
  let c1024_2281 : Index := 1024#32
  ![1, v3078.toNat, 1024]
def k0_off156 (d0 : Dev nD) : Fin 3 → Nat :=
  let c0_2295 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3098 : Index := Scalar.indexCast v2881
  let c1152_2296 : Index := 1152#32
  ![0, v3098.toNat, 1152]
def k0_off157 (d0 : Dev nD) : Fin 3 → Nat :=
  let c1_2297 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3102 : Index := Scalar.indexCast v2881
  let c1152_2298 : Index := 1152#32
  ![1, v3102.toNat, 1152]
def k0_off158 (d0 : Dev nD) : Fin 3 → Nat :=
  let c0_2312 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3122 : Index := Scalar.indexCast v2881
  let c1280_2313 : Index := 1280#32
  ![0, v3122.toNat, 1280]
def k0_off159 (d0 : Dev nD) : Fin 3 → Nat :=
  let c1_2314 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3126 : Index := Scalar.indexCast v2881
  let c1280_2315 : Index := 1280#32
  ![1, v3126.toNat, 1280]
def k0_off160 (d0 : Dev nD) : Fin 3 → Nat :=
  let c0_2329 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3146 : Index := Scalar.indexCast v2881
  let c1408_2330 : Index := 1408#32
  ![0, v3146.toNat, 1408]
def k0_off161 (d0 : Dev nD) : Fin 3 → Nat :=
  let c1_2331 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3150 : Index := Scalar.indexCast v2881
  let c1408_2332 : Index := 1408#32
  ![1, v3150.toNat, 1408]
def k0_off162 (d0 : Dev nD) : Fin 3 → Nat :=
  let c0_2346 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3170 : Index := Scalar.indexCast v2881
  let c1536_2347 : Index := 1536#32
  ![0, v3170.toNat, 1536]
def k0_off163 (d0 : Dev nD) : Fin 3 → Nat :=
  let c1_2348 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3174 : Index := Scalar.indexCast v2881
  let c1536_2349 : Index := 1536#32
  ![1, v3174.toNat, 1536]
def k0_off164 (d0 : Dev nD) : Fin 3 → Nat :=
  let c0_2363 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3194 : Index := Scalar.indexCast v2881
  let c1664_2364 : Index := 1664#32
  ![0, v3194.toNat, 1664]
def k0_off165 (d0 : Dev nD) : Fin 3 → Nat :=
  let c1_2365 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3198 : Index := Scalar.indexCast v2881
  let c1664_2366 : Index := 1664#32
  ![1, v3198.toNat, 1664]
def k0_off166 (d0 : Dev nD) : Fin 3 → Nat :=
  let c0_2380 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3218 : Index := Scalar.indexCast v2881
  let c1792_2381 : Index := 1792#32
  ![0, v3218.toNat, 1792]
def k0_off167 (d0 : Dev nD) : Fin 3 → Nat :=
  let c1_2382 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3222 : Index := Scalar.indexCast v2881
  let c1792_2383 : Index := 1792#32
  ![1, v3222.toNat, 1792]
def k0_off168 (d0 : Dev nD) : Fin 3 → Nat :=
  let c0_2397 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3242 : Index := Scalar.indexCast v2881
  let c1920_2398 : Index := 1920#32
  ![0, v3242.toNat, 1920]
def k0_off169 (d0 : Dev nD) : Fin 3 → Nat :=
  let c1_2399 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2141 : BitVec 32 := 256#32
  let v2881 : BitVec 32 := Scalar.muli v42 c256_i32_2141
  let v3246 : Index := Scalar.indexCast v2881
  let c1920_2400 : Index := 1920#32
  ![1, v3246.toNat, 1920]
def k0_off170 (d0 : Dev nD) : Fin 3 → Nat :=
  let c0_i32_2417 : BitVec 32 := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2414 : BitVec 32 := 256#32
  let v3266 : BitVec 32 := Scalar.muli v42 c256_i32_2414
  let c128_i32_2415 : BitVec 32 := 128#32
  let v3267 : BitVec 32 := Scalar.addi v3266 c128_i32_2415
  let c0_i32_2426 : BitVec 32 := 0#32
  ![0, v3267.toNat, 0]
def k0_off171 (d0 : Dev nD) : Fin 3 → Nat :=
  let c1_i32_2431 : BitVec 32 := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2428 : BitVec 32 := 256#32
  let v3280 : BitVec 32 := Scalar.muli v42 c256_i32_2428
  let c128_i32_2429 : BitVec 32 := 128#32
  let v3281 : BitVec 32 := Scalar.addi v3280 c128_i32_2429
  let c0_i32_2440 : BitVec 32 := 0#32
  ![1, v3281.toNat, 0]
def k0_off172 (d0 : Dev nD) : Fin 3 → Nat :=
  let c0_2444 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3296 : Index := Scalar.indexCast v3295
  let c0_2445 : Index := 0#32
  ![0, v3296.toNat, 0]
def k0_off173 (d0 : Dev nD) : Fin 3 → Nat :=
  let c1_2446 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3300 : Index := Scalar.indexCast v3295
  let c0_2447 : Index := 0#32
  ![1, v3300.toNat, 0]
def k0_off174 (d0 : Dev nD) : Fin 3 → Nat :=
  let c0_2459 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3319 : Index := Scalar.indexCast v3295
  let c128_2460 : Index := 128#32
  ![0, v3319.toNat, 128]
def k0_off175 (d0 : Dev nD) : Fin 3 → Nat :=
  let c1_2461 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3323 : Index := Scalar.indexCast v3295
  let c128_2462 : Index := 128#32
  ![1, v3323.toNat, 128]
def k0_off176 (d0 : Dev nD) : Fin 3 → Nat :=
  let c0_2474 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3342 : Index := Scalar.indexCast v3295
  let c256_2475 : Index := 256#32
  ![0, v3342.toNat, 256]
def k0_off177 (d0 : Dev nD) : Fin 3 → Nat :=
  let c1_2476 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3346 : Index := Scalar.indexCast v3295
  let c256_2477 : Index := 256#32
  ![1, v3346.toNat, 256]
def k0_off178 (d0 : Dev nD) : Fin 3 → Nat :=
  let c0_2489 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3365 : Index := Scalar.indexCast v3295
  let c384_2490 : Index := 384#32
  ![0, v3365.toNat, 384]
def k0_off179 (d0 : Dev nD) : Fin 3 → Nat :=
  let c1_2491 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3369 : Index := Scalar.indexCast v3295
  let c384_2492 : Index := 384#32
  ![1, v3369.toNat, 384]
def k0_off180 (d0 : Dev nD) : Fin 3 → Nat :=
  let c0_2504 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3388 : Index := Scalar.indexCast v3295
  let c512_2505 : Index := 512#32
  ![0, v3388.toNat, 512]
def k0_off181 (d0 : Dev nD) : Fin 3 → Nat :=
  let c1_2506 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3392 : Index := Scalar.indexCast v3295
  let c512_2507 : Index := 512#32
  ![1, v3392.toNat, 512]
def k0_off182 (d0 : Dev nD) : Fin 3 → Nat :=
  let c0_2519 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3411 : Index := Scalar.indexCast v3295
  let c640_2520 : Index := 640#32
  ![0, v3411.toNat, 640]
def k0_off183 (d0 : Dev nD) : Fin 3 → Nat :=
  let c1_2521 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3415 : Index := Scalar.indexCast v3295
  let c640_2522 : Index := 640#32
  ![1, v3415.toNat, 640]
def k0_off184 (d0 : Dev nD) : Fin 3 → Nat :=
  let c0_2534 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3434 : Index := Scalar.indexCast v3295
  let c768_2535 : Index := 768#32
  ![0, v3434.toNat, 768]
def k0_off185 (d0 : Dev nD) : Fin 3 → Nat :=
  let c1_2536 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3438 : Index := Scalar.indexCast v3295
  let c768_2537 : Index := 768#32
  ![1, v3438.toNat, 768]
def k0_off186 (d0 : Dev nD) : Fin 3 → Nat :=
  let c0_2549 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3457 : Index := Scalar.indexCast v3295
  let c896_2550 : Index := 896#32
  ![0, v3457.toNat, 896]
def k0_off187 (d0 : Dev nD) : Fin 3 → Nat :=
  let c1_2551 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3461 : Index := Scalar.indexCast v3295
  let c896_2552 : Index := 896#32
  ![1, v3461.toNat, 896]
def k0_off188 (d0 : Dev nD) : Fin 3 → Nat :=
  let c0_2564 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3480 : Index := Scalar.indexCast v3295
  let c1024_2565 : Index := 1024#32
  ![0, v3480.toNat, 1024]
def k0_off189 (d0 : Dev nD) : Fin 3 → Nat :=
  let c1_2566 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3484 : Index := Scalar.indexCast v3295
  let c1024_2567 : Index := 1024#32
  ![1, v3484.toNat, 1024]
def k0_off190 (d0 : Dev nD) : Fin 3 → Nat :=
  let c0_2579 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3503 : Index := Scalar.indexCast v3295
  let c1152_2580 : Index := 1152#32
  ![0, v3503.toNat, 1152]
def k0_off191 (d0 : Dev nD) : Fin 3 → Nat :=
  let c1_2581 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3507 : Index := Scalar.indexCast v3295
  let c1152_2582 : Index := 1152#32
  ![1, v3507.toNat, 1152]
def k0_off192 (d0 : Dev nD) : Fin 3 → Nat :=
  let c0_2594 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3526 : Index := Scalar.indexCast v3295
  let c1280_2595 : Index := 1280#32
  ![0, v3526.toNat, 1280]
def k0_off193 (d0 : Dev nD) : Fin 3 → Nat :=
  let c1_2596 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3530 : Index := Scalar.indexCast v3295
  let c1280_2597 : Index := 1280#32
  ![1, v3530.toNat, 1280]
def k0_off194 (d0 : Dev nD) : Fin 3 → Nat :=
  let c0_2609 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3549 : Index := Scalar.indexCast v3295
  let c1408_2610 : Index := 1408#32
  ![0, v3549.toNat, 1408]
def k0_off195 (d0 : Dev nD) : Fin 3 → Nat :=
  let c1_2611 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3553 : Index := Scalar.indexCast v3295
  let c1408_2612 : Index := 1408#32
  ![1, v3553.toNat, 1408]
def k0_off196 (d0 : Dev nD) : Fin 3 → Nat :=
  let c0_2624 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3572 : Index := Scalar.indexCast v3295
  let c1536_2625 : Index := 1536#32
  ![0, v3572.toNat, 1536]
def k0_off197 (d0 : Dev nD) : Fin 3 → Nat :=
  let c1_2626 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3576 : Index := Scalar.indexCast v3295
  let c1536_2627 : Index := 1536#32
  ![1, v3576.toNat, 1536]
def k0_off198 (d0 : Dev nD) : Fin 3 → Nat :=
  let c0_2639 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3595 : Index := Scalar.indexCast v3295
  let c1664_2640 : Index := 1664#32
  ![0, v3595.toNat, 1664]
def k0_off199 (d0 : Dev nD) : Fin 3 → Nat :=
  let c1_2641 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3599 : Index := Scalar.indexCast v3295
  let c1664_2642 : Index := 1664#32
  ![1, v3599.toNat, 1664]
def k0_off200 (d0 : Dev nD) : Fin 3 → Nat :=
  let c0_2654 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3618 : Index := Scalar.indexCast v3295
  let c1792_2655 : Index := 1792#32
  ![0, v3618.toNat, 1792]
def k0_off201 (d0 : Dev nD) : Fin 3 → Nat :=
  let c1_2656 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3622 : Index := Scalar.indexCast v3295
  let c1792_2657 : Index := 1792#32
  ![1, v3622.toNat, 1792]
def k0_off202 (d0 : Dev nD) : Fin 3 → Nat :=
  let c0_2669 : Index := 0#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3641 : Index := Scalar.indexCast v3295
  let c1920_2670 : Index := 1920#32
  ![0, v3641.toNat, 1920]
def k0_off203 (d0 : Dev nD) : Fin 3 → Nat :=
  let c1_2671 : Index := 1#32
  let c2_i32_26 : BitVec 32 := 2#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let v40 : BitVec 32 := Scalar.muli c2_i32_26 v39
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_27 v8
  let v42 : BitVec 32 := Scalar.addi v40 v41
  let c256_i32_2442 : BitVec 32 := 256#32
  let v3294 : BitVec 32 := Scalar.muli v42 c256_i32_2442
  let c128_i32_2443 : BitVec 32 := 128#32
  let v3295 : BitVec 32 := Scalar.addi v3294 c128_i32_2443
  let v3645 : Index := Scalar.indexCast v3295
  let c1920_2672 : Index := 1920#32
  ![1, v3645.toNat, 1920]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x2048 : Shape := ⟨2, ![2048, 2048]⟩
abbrev S1x2048x16x128 : Shape := ⟨4, ![1, 2048, 16, 128]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048x16x128, .f32⟩
  | .hbm, ⟨4, _⟩ => ⟨S1x2048x16x128, .f32⟩
  | .hbm, ⟨5, _⟩ => ⟨S1x2048x16x128, .f32⟩
  | .hbm, ⟨6, _⟩ => ⟨S1x16x2048x2048, .f32⟩
  | .hbm, ⟨7, _⟩ => ⟨S_, .f32⟩
  | .hbm, ⟨8, _⟩ => ⟨S1x16x2048x2048, .f32⟩
  | .hbm, ⟨9, _⟩ => ⟨S1x16x2048x2048, .f32⟩
  | .hbm, ⟨10, _⟩ => ⟨S_, .f32⟩
  | .hbm, ⟨11, _⟩ => ⟨S1x16x2048, .f32⟩
  | .hbm, ⟨12, _⟩ => ⟨S1x16x2048x1, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S1x16x2048x1, .f32⟩
  | .hbm, ⟨19, _⟩ => ⟨S1x16x2048x2048, .f32⟩
  | .hbm, ⟨20, _⟩ => ⟨S1x16x2048x2048, .f32⟩
  | .hbm, ⟨21, _⟩ => ⟨S1x16x128x2048, .f32⟩
  | .hbm, ⟨22, _⟩ => ⟨S1x2048x16x128, .f32⟩
  | .hbm, ⟨23, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Segs.lean ====
/- The kernel's body written as a composition of a few segments: the barrier, the sends over y, one head of the
   local pass, one head of a landed chunk, the last chunk with its division, and the waits. Each segment takes
   what follows it as an argument, so the printed body, whose statements are cut into parts, is this composition
   by unfolding. -/
module

public import proofs.«01_k».proof.Proof.Gen.KernelIdeal
public import proofs.«01_k».proof.Proof.Gen.KernelIdeal.Launch
public import Idealize.ShloMosaic.Lib.Tactic

@[expose] public section

noncomputable section

namespace Cert.Attn

open Cert.KernelIdeal Cert.KernelIdeal.Gen
open Idealize.ShloMosaic Idealize.SL.Sem

variable {F : FTy → Type} [FloatOps F]

/-- Programs of the kernel's body. -/
abbrev KProg (F : FTy → Type) [FloatOps F] : Type _ := Prog (TpuEff nD τ sig (Elt F) Λ₀ .tc) PUnit

/-! ## The pure values -/

/-- The scaled queries as the kernel stores them. -/
def qsV (v : Vec F S1024x2048 .f32) : FVec F S1024x2048 .bf16 :=
  shapeCast S1024x2048 (truncf .bf16 (mulf (shapeCast S1024x2048 v shapeCasts_S1024x2048_S1024x2048)
    (broadcast S1024x2048 (Scalar.ofBits .f32 0x3DB504F3#32 : F .f32))) bitsLt_bf16_f32) shapeCasts_S1024x2048_S1024x2048

/-- A head's local keys or values, in the matrix unit's format. -/
def locB (v : Vec F S1024x128 .f32) : FVec F S1024x128 .bf16 :=
  truncf .bf16 (shapeCast S1024x128 v shapeCasts_S1024x128_S1024x128) bitsLt_bf16_f32

/-- The exponentials of 256 query rows against the local keys. -/
def pL (k : FVec F S1024x128 .bf16) (q : Vec F S256x128 .bf16) : FVec F S256x1024 .f32 :=
  exp (matmul dot_S256x128_S1024x128_S256x1024_1_1_0_0_n_n none q k (constant S256x1024 .f32 0x00000000#32))
/-- Their row sums. -/
def lL (k : FVec F S1024x128 .bf16) (q : Vec F S256x128 .bf16) : FVec F S256x1 .f32 :=
  shapeCast S256x1 (shapeCast S256x1 (multiReduction .add [1] S256 (pL k q) 0x00000000#32 reduces_S256x1024_S256 (.inl rfl) rfl)
    shapeCasts_S256_S256x1) shapeCasts_S256x1_S256x1
/-- The values weighted by them. -/
def oL (k v : FVec F S1024x128 .bf16) (q : Vec F S256x128 .bf16) : FVec F S256x128 .f32 :=
  matmul dot_S256x1024_S1024x128_S256x128_1_0_0_1_n_n none (truncf .bf16 (pL k q) bitsLt_bf16_f32) v (constant S256x128 .f32 0x00000000#32)

/-- A landed chunk's keys or values of one head. -/
def chB (v : Vec F S1x128x128 .f32) : FVec F S128x128 .bf16 :=
  truncf .bf16 (shapeCast S128x128 v shapeCasts_S1x128x128_S128x128) bitsLt_bf16_f32
/-- The exponentials of every query row against a landed chunk. -/
def pC (k : Vec F S1x128x128 .f32) (q : Vec F S1024x128 .bf16) : FVec F S1024x128 .f32 :=
  exp (matmul dot_S1024x128_S128x128_S1024x128_1_1_0_0_n_n none q (chB k) (constant S1024x128 .f32 0x00000000#32))
/-- The row sums with the chunk's added. -/
def lC (k : Vec F S1x128x128 .f32) (q : Vec F S1024x128 .bf16) (l : Vec F S1024x1 .f32) : FVec F S1024x1 .f32 :=
  addf l (shapeCast S1024x1 (multiReduction .add [1] S1024 (pC k q) 0x00000000#32 reduces_S1024x128_S1024 (.inl rfl) rfl)
    shapeCasts_S1024_S1024x1)
/-- The weighted values with the chunk's added. -/
def oC (k v : Vec F S1x128x128 .f32) (q : Vec F S1024x128 .bf16) (o : Vec F S1024x128 .f32) : FVec F S1024x128 .f32 :=
  addf (shapeCast S1024x128 o shapeCasts_S1024x128_S1024x128)
    (matmul dot_S1024x128_S128x128_S1024x128_1_0_0_1_n_n none (truncf .bf16 (pC k q) bitsLt_bf16_f32) (chB v) (constant S1024x128 .f32 0x00000000#32))
/-- The last chunk's weighted values over the row sums. -/
def oF (k v : Vec F S1x128x128 .f32) (q : Vec F S1024x128 .bf16) (l : Vec F S1024x1 .f32) (o : Vec F S1024x128 .f32) : FVec F S1024x128 .f32 :=
  divf (oC k v q o) (broadcastTo S1024x128 (lC k q l) broadcasts_S1024x1_S1024x128)

/-! ## The rectangles' bounds -/

theorem inb_kv {t r : ℕ} (h : Fin 16) (ht : t < 2) (hr : r + 128 ≤ 1024) :
    ∀ a, (![t, r, 128 * h.val] : Fin 3 → ℕ) a + S1x128x128.size a ≤ S2x1024x2048.size a := by
  have := h.isLt
  intro a; fin_cases a <;> simp [S1x128x128, S2x1024x2048] <;> omega
theorem inb_win {t r : ℕ} (ht : t < 2) (hr : r + 128 ≤ 1024) :
    ∀ a, (![t, r, 0] : Fin 3 → ℕ) a + S1x128x2048.size a ≤ S2x1024x2048.size a := by
  intro a; fin_cases a <;> simp [S1x128x2048, S2x1024x2048] <;> omega
theorem inb_src {r : ℕ} (hr : r + 128 ≤ 1024) :
    ∀ a, (![r, 0] : Fin 2 → ℕ) a + S128x2048.size a ≤ S1024x2048.size a := by
  intro a; fin_cases a <;> simp [S128x2048, S1024x2048] <;> omega
theorem inb_hd (h : Fin 16) : ∀ a, (![0, 128 * h.val] : Fin 2 → ℕ) a + S1024x128.size a ≤ S1024x2048.size a := by
  have := h.isLt
  intro a; fin_cases a <;> simp [S1024x128, S1024x2048]; omega
theorem inb_l (h : Fin 16) : ∀ a, (![0, h.val] : Fin 2 → ℕ) a + S1024x1.size a ≤ S1024x128.size a := by
  have := h.isLt
  intro a; fin_cases a <;> simp [S1024x1, S1024x128]; omega
theorem inb_qb (i : Fin 4) (h : Fin 16) : ∀ a, (![256 * i.val, 128 * h.val] : Fin 2 → ℕ) a + S256x128.size a ≤ S1024x2048.size a := by
  have := h.isLt; have := i.isLt
  intro a; fin_cases a <;> simp [S256x128, S1024x2048] <;> omega
theorem inb_lb (i : Fin 4) (h : Fin 16) : ∀ a, (![256 * i.val, h.val] : Fin 2 → ℕ) a + S256x1.size a ≤ S1024x128.size a := by
  have := h.isLt; have := i.isLt
  intro a; fin_cases a <;> simp [S256x1, S1024x128] <;> omega
theorem inb_s2 (t c : Fin 2) : ∀ a, (![t.val, c.val] : Fin 2 → ℕ) a + S1x1.size a ≤ S2x2.size a := by
  have := t.isLt; have := c.isLt
  intro a; fin_cases a <;> simp [S1x1, S2x2] <;> omega
theorem inb_s3 (t : Fin 2) (c : Fin 3) : ∀ a, (![t.val, c.val] : Fin 2 → ℕ) a + S1x1.size a ≤ S2x3.size a := by
  have := t.isLt; have := c.isLt
  intro a; fin_cases a <;> simp [S1x1, S2x3] <;> omega

/-! ## The segments -/

section Segments

variable (arg0 : Memref sig .tc .vmem S1024x2048 .f32) (arg1 : Memref sig .tc .vmem S1024x2048 .f32)
  (arg2 : Memref sig .tc .vmem S1024x2048 .f32) (arg3 : Memref sig .tc .vmem S1024x2048 .f32)
  (arg4 : Memref sig .tc .vmem S2x1024x2048 .f32) (arg5 : Memref sig .tc .vmem S1024x128 .f32)
  (arg6 : Memref sig .tc .vmem S1024x2048 .bf16) (harg6 : arg6.IsWhole)
  (arg7 arg8 : DmaSems sig S2x2) (arg9 arg10 arg11 arg12 : DmaSems sig S2x3)

/-- A semaphore of a 2 by 2 array. -/
abbrev sm2 (A : DmaSems sig S2x2) (t c : Fin 2) : DmaSem sig :=
  ((A.slice (Rect.unit (s := S2x2) ![t.val, c.val] S1x1.size (inb_s2 t c))).squeeze S_ squeezes_S1x1_S_).sem
/-- A semaphore of a 2 by 3 array. -/
abbrev sm3 (A : DmaSems sig S2x3) (t : Fin 2) (c : Fin 3) : DmaSem sig :=
  ((A.slice (Rect.unit (s := S2x3) ![t.val, c.val] S1x1.size (inb_s3 t c))).squeeze S_ squeezes_S1x1_S_).sem
/-- 128 rows of the landing buffer's plane `t`, from row `r`. -/
abbrev winM (t : Fin 2) (r : ℕ) (hr : r + 128 ≤ 1024) : Memref sig .tc .vmem S128x2048 .f32 :=
  (arg4.slice (Rect.unit (s := S2x1024x2048) ![t.val, r, 0] S1x128x2048.size (inb_win t.isLt hr)) (fun _ => rfl)).squeeze S128x2048
    squeezes_S1x128x2048_S128x2048
/-- 128 rows of an operand, from row `r`. -/
abbrev srcM (a : Memref sig .tc .vmem S1024x2048 .f32) (r : ℕ) (hr : r + 128 ≤ 1024) : Memref sig .tc .vmem S128x2048 .f32 :=
  a.slice (Rect.unit (s := S1024x2048) ![r, 0] S128x2048.size (inb_src hr)) (fun _ => rfl)
/-- The operand sent on plane `t`: the keys, then the values. -/
abbrev kvM (t : Fin 2) : Memref sig .tc .vmem S1024x2048 .f32 := match t with | 0 => arg1 | 1 => arg2

/-- One send over y. -/
def ySend (n : Dev nD) (t c : Fin 2) (r : ℕ) (hr : r + 128 ≤ 1024) (K : KProg F) : KProg F :=
  .op (.enqueueDma (srcM (kvM arg1 arg2 t) r hr) (.remote (Dev.tc n) (winM arg4 t r hr) (.dma (sm2 arg7 t c))) (.dma (sm2 arg8 t c))
    (View.wordExact_bits rfl) ((View.wordExact_bits rfl).reshape _ _) ⟨⟨rfl, Or.inl rfl⟩, trivial⟩) fun _ => K
/-- A landed window sent on, from semaphore `s` to the neighbour's semaphore `s'`. -/
def fwd (n : Dev nD) (s s' : DmaSem sig) (t : Fin 2) (r : ℕ) (hr : r + 128 ≤ 1024) (K : KProg F) : KProg F :=
  .op (.enqueueDma (winM arg4 t r hr) (.remote (Dev.tc n) (winM arg4 t r hr) (.dma s)) (.dma s')
    ((View.wordExact_bits rfl).reshape _ _) ((View.wordExact_bits rfl).reshape _ _) ⟨⟨rfl, Or.inl rfl⟩, trivial⟩) fun _ => K
/-- The wait for a window that lands from y. -/
def yRecv (t c : Fin 2) (r : ℕ) (hr : r + 128 ≤ 1024) (K : KProg F) : KProg F :=
  .op (.waitDma2 (sm2 arg8 t c) (srcM (kvM arg1 arg2 t) r hr) (winM arg4 t r hr) (View.wordExact_bits rfl) ((View.wordExact_bits rfl).reshape _ _)) fun _ => K
/-- The wait on semaphore `s` sized by a window of the landing buffer. -/
def wWait (s : DmaSem sig) (t : Fin 2) (r : ℕ) (hr : r + 128 ≤ 1024) (K : KProg F) : KProg F :=
  .op (.waitDma2 s (winM arg4 t r hr) (winM arg4 t r hr) ((View.wordExact_bits rfl).reshape _ _) ((View.wordExact_bits rfl).reshape _ _)) fun _ => K
/-- The wait for a send over y. -/
def ySent (t c : Fin 2) (r : ℕ) (hr : r + 128 ≤ 1024) (K : KProg F) : KProg F :=
  .op (.waitDma2 (sm2 arg7 t c) (winM arg4 t r hr) (srcM (kvM arg1 arg2 t) r hr) ((View.wordExact_bits rfl).reshape _ _) (View.wordExact_bits rfl)) fun _ => K

/-- The queries scaled into scratch. -/
def qStore (K : KProg F) : KProg F :=
  .op (.load arg0 (Rect.unit (s := S1024x2048) ![0, 0] S1024x2048.size inb_S1024x2048_S1024x2048_0_0).toLoadRect (View.loadsAt_vmem h_S1024x2048)) fun v =>
  .op (.load arg6 (Rect.unit (s := S1024x2048) ![0, 0] S1024x2048.size inb_S1024x2048_S1024x2048_0_0).toLoadRect (View.loadsAt_vmem h_S1024x2048)) fun _ =>
  .op (.store arg6 (Rect.unit (s := S1024x2048) ![0, 0] S1024x2048.size inb_S1024x2048_S1024x2048_0_0) (qsV v) Finset.univ
    (View.stores_vmem h_S1024x2048 (harg6.storeExact_slice rfl _ packedbf16_S1024x2048_S1024x2048_0_0) (fun _ => rfl)) (.inl rfl)) fun _ => K

/-- 256 query rows of the local pass of a head. -/
def locRow (k v : FVec F S1024x128 .bf16) (h : Fin 16) (i : Fin 4) (K : KProg F) : KProg F :=
  .op (.load arg6 (Rect.unit (s := S1024x2048) ![256 * i.val, 128 * h.val] S256x128.size (inb_qb i h)).toLoadRect (View.loadsAt_vmem h_S256x128)) fun q =>
  .op (.load arg5 (Rect.unit (s := S1024x128) ![256 * i.val, h.val] S256x1.size (inb_lb i h)).toLoadRect (View.loadsAt_vmem h_S256x1)) fun _ =>
  .op (.store arg5 (Rect.unit (s := S1024x128) ![256 * i.val, h.val] S256x1.size (inb_lb i h)) (lL k q) Finset.univ
    (View.stores_vmem_bits_univ h_S256x1 rfl) (.inl rfl)) fun _ =>
  .op (.load arg3 (Rect.unit (s := S1024x2048) ![256 * i.val, 128 * h.val] S256x128.size (inb_qb i h)).toLoadRect (View.loadsAt_vmem h_S256x128)) fun _ =>
  .op (.store arg3 (Rect.unit (s := S1024x2048) ![256 * i.val, 128 * h.val] S256x128.size (inb_qb i h)) (oL k v q) Finset.univ
    (View.stores_vmem_bits_univ h_S256x128 rfl) (.inl rfl)) fun _ => K

/-- `f` at `0, …, n - 1` in order, then `K`. -/
def upTo {N : ℕ} (f : Fin N → KProg F → KProg F) (n : ℕ) : n ≤ N → KProg F → KProg F :=
  Nat.rec (fun _ K => K) (fun n ih hn K => ih (Nat.le_of_succ_le hn) (f ⟨n, hn⟩ K)) n

/-- The local pass of a head. -/
def locHead (h : Fin 16) (K : KProg F) : KProg F :=
  .op (.load arg1 (Rect.unit (s := S1024x2048) ![0, 128 * h.val] S1024x128.size (inb_hd h)).toLoadRect (View.loadsAt_vmem h_S1024x128)) fun k =>
  .op (.load arg2 (Rect.unit (s := S1024x2048) ![0, 128 * h.val] S1024x128.size (inb_hd h)).toLoadRect (View.loadsAt_vmem h_S1024x128)) fun v =>
  upTo (locRow arg3 arg5 arg6 (locB k) (locB v) h) 4 (le_refl 4) K

/-- One head of a landed chunk at row `r`. -/
def chHead (r : ℕ) (hr : r + 128 ≤ 1024) (h : Fin 16) (K : KProg F) : KProg F :=
  .op (.load arg4 (Rect.unit (s := S2x1024x2048) ![0, r, 128 * h.val] S1x128x128.size (inb_kv h (by decide) hr)).toLoadRect (View.loadsAt_vmem h_S1x128x128)) fun k =>
  .op (.load arg4 (Rect.unit (s := S2x1024x2048) ![1, r, 128 * h.val] S1x128x128.size (inb_kv h (by decide) hr)).toLoadRect (View.loadsAt_vmem h_S1x128x128)) fun v =>
  .op (.load arg6 (Rect.unit (s := S1024x2048) ![0, 128 * h.val] S1024x128.size (inb_hd h)).toLoadRect (View.loadsAt_vmem h_S1024x128)) fun q =>
  .op (.load arg5 (Rect.unit (s := S1024x128) ![0, h.val] S1024x1.size (inb_l h)).toLoadRect (View.loadsAt_vmem h_S1024x1)) fun l =>
  .op (.load arg5 (Rect.unit (s := S1024x128) ![0, h.val] S1024x1.size (inb_l h)).toLoadRect (View.loadsAt_vmem h_S1024x1)) fun _ =>
  .op (.store arg5 (Rect.unit (s := S1024x128) ![0, h.val] S1024x1.size (inb_l h)) (shapeCast S1024x1 (lC k q l) shapeCasts_S1024x1_S1024x1) Finset.univ
    (View.stores_vmem_bits_univ h_S1024x1 rfl) (.inl rfl)) fun _ =>
  .op (.load arg3 (Rect.unit (s := S1024x2048) ![0, 128 * h.val] S1024x128.size (inb_hd h)).toLoadRect (View.loadsAt_vmem h_S1024x128)) fun o =>
  .op (.load arg3 (Rect.unit (s := S1024x2048) ![0, 128 * h.val] S1024x128.size (inb_hd h)).toLoadRect (View.loadsAt_vmem h_S1024x128)) fun _ =>
  .op (.store arg3 (Rect.unit (s := S1024x2048) ![0, 128 * h.val] S1024x128.size (inb_hd h)) (oC k v q o) Finset.univ
    (View.stores_vmem_bits_univ h_S1024x128 rfl) (.inl rfl)) fun _ => K

/-- One head of the last chunk: the sums completed and divided. -/
def finHead (r : ℕ) (hr : r + 128 ≤ 1024) (h : Fin 16) (K : KProg F) : KProg F :=
  .op (.load arg4 (Rect.unit (s := S2x1024x2048) ![0, r, 128 * h.val] S1x128x128.size (inb_kv h (by decide) hr)).toLoadRect (View.loadsAt_vmem h_S1x128x128)) fun k =>
  .op (.load arg4 (Rect.unit (s := S2x1024x2048) ![1, r, 128 * h.val] S1x128x128.size (inb_kv h (by decide) hr)).toLoadRect (View.loadsAt_vmem h_S1x128x128)) fun v =>
  .op (.load arg6 (Rect.unit (s := S1024x2048) ![0, 128 * h.val] S1024x128.size (inb_hd h)).toLoadRect (View.loadsAt_vmem h_S1024x128)) fun q =>
  .op (.load arg5 (Rect.unit (s := S1024x128) ![0, h.val] S1024x1.size (inb_l h)).toLoadRect (View.loadsAt_vmem h_S1024x1)) fun l =>
  .op (.load arg3 (Rect.unit (s := S1024x2048) ![0, 128 * h.val] S1024x128.size (inb_hd h)).toLoadRect (View.loadsAt_vmem h_S1024x128)) fun o =>
  .op (.load arg3 (Rect.unit (s := S1024x2048) ![0, 128 * h.val] S1024x128.size (inb_hd h)).toLoadRect (View.loadsAt_vmem h_S1024x128)) fun _ =>
  .op (.store arg3 (Rect.unit (s := S1024x2048) ![0, 128 * h.val] S1024x128.size (inb_hd h)) (oF k v q l o) Finset.univ
    (View.stores_vmem_bits_univ h_S1024x128 rfl) (.inl rfl)) fun _ => K

/-- A landed chunk, every head. -/
def chunk (r : ℕ) (hr : r + 128 ≤ 1024) (K : KProg F) : KProg F :=
  upTo (chHead arg3 arg4 arg5 arg6 r hr) 16 (le_refl 16) K

variable (ny nx nz : Dev nD) (R : Fin 8 → ℕ) (hR : ∀ p, R p + 128 ≤ 1024)

/-- The landing of plane `t` of the chunk `c` from y, and its two forwards. -/
def yLand (c t : Fin 2) (K : KProg F) : KProg F :=
  yRecv arg1 arg2 arg4 arg8 t c (R ⟨c.val, by omega⟩) (hR _) <|
  fwd arg4 nx (sm3 arg9 t ⟨c.val, by omega⟩) (sm3 arg10 t ⟨c.val, by omega⟩) t (R ⟨c.val, by omega⟩) (hR _) <|
  fwd arg4 nz (sm3 arg11 t ⟨c.val, by omega⟩) (sm3 arg12 t ⟨c.val, by omega⟩) t (R ⟨c.val, by omega⟩) (hR _) K

/-- The waits for the sends. -/
def sentAll (K : KProg F) : KProg F :=
  ySent arg1 arg2 arg4 arg7 0 0 (R 0) (hR 0) <| ySent arg1 arg2 arg4 arg7 1 0 (R 0) (hR 0) <|
  ySent arg1 arg2 arg4 arg7 0 1 (R 1) (hR 1) <| ySent arg1 arg2 arg4 arg7 1 1 (R 1) (hR 1) <|
  wWait arg4 (sm3 arg9 0 0) 0 (R 0) (hR 0) <| wWait arg4 (sm3 arg11 0 0) 0 (R 0) (hR 0) <|
  wWait arg4 (sm3 arg9 1 0) 1 (R 0) (hR 0) <| wWait arg4 (sm3 arg11 1 0) 1 (R 0) (hR 0) <|
  wWait arg4 (sm3 arg9 0 1) 0 (R 1) (hR 1) <| wWait arg4 (sm3 arg11 0 1) 0 (R 1) (hR 1) <|
  wWait arg4 (sm3 arg9 1 1) 1 (R 1) (hR 1) <| wWait arg4 (sm3 arg11 1 1) 1 (R 1) (hR 1) <|
  wWait arg4 (sm3 arg11 0 2) 0 (R 3) (hR 3) <| wWait arg4 (sm3 arg11 1 2) 1 (R 3) (hR 3) <|
  wWait arg4 (sm3 arg9 0 2) 0 (R 4) (hR 4) <| wWait arg4 (sm3 arg9 1 2) 1 (R 4) (hR 4) K

/-- The landings from x and z, and the chunks they complete. -/
def lands (K : KProg F) : KProg F :=
  yLand arg1 arg2 arg4 arg8 arg9 arg10 arg11 arg12 nx nz R hR 0 0 <|
  yLand arg1 arg2 arg4 arg8 arg9 arg10 arg11 arg12 nx nz R hR 0 1 <|
  chunk arg3 arg4 arg5 arg6 (R 0) (hR 0) <|
  yLand arg1 arg2 arg4 arg8 arg9 arg10 arg11 arg12 nx nz R hR 1 0 <|
  yLand arg1 arg2 arg4 arg8 arg9 arg10 arg11 arg12 nx nz R hR 1 1 <|
  chunk arg3 arg4 arg5 arg6 (R 1) (hR 1) <|
  wWait arg4 (sm3 arg10 0 0) 0 (R 2) (hR 2) <| wWait arg4 (sm3 arg10 1 0) 1 (R 2) (hR 2) <|
  chunk arg3 arg4 arg5 arg6 (R 2) (hR 2) <|
  wWait arg4 (sm3 arg10 0 1) 0 (R 3) (hR 3) <| fwd arg4 nz (sm3 arg11 0 2) (sm3 arg12 0 2) 0 (R 3) (hR 3) <|
  wWait arg4 (sm3 arg10 1 1) 1 (R 3) (hR 3) <| fwd arg4 nz (sm3 arg11 1 2) (sm3 arg12 1 2) 1 (R 3) (hR 3) <|
  chunk arg3 arg4 arg5 arg6 (R 3) (hR 3) <|
  wWait arg4 (sm3 arg12 0 0) 0 (R 4) (hR 4) <| fwd arg4 nx (sm3 arg9 0 2) (sm3 arg10 0 2) 0 (R 4) (hR 4) <|
  wWait arg4 (sm3 arg12 1 0) 1 (R 4) (hR 4) <| fwd arg4 nx (sm3 arg9 1 2) (sm3 arg10 1 2) 1 (R 4) (hR 4) <|
  chunk arg3 arg4 arg5 arg6 (R 4) (hR 4) <|
  wWait arg4 (sm3 arg12 0 1) 0 (R 5) (hR 5) <| wWait arg4 (sm3 arg12 1 1) 1 (R 5) (hR 5) <|
  chunk arg3 arg4 arg5 arg6 (R 5) (hR 5) <|
  wWait arg4 (sm3 arg10 0 2) 0 (R 6) (hR 6) <| wWait arg4 (sm3 arg10 1 2) 1 (R 6) (hR 6) <|
  chunk arg3 arg4 arg5 arg6 (R 6) (hR 6) <|
  wWait arg4 (sm3 arg12 0 2) 0 (R 7) (hR 7) <| wWait arg4 (sm3 arg12 1 2) 1 (R 7) (hR 7) <|
  upTo (finHead arg3 arg4 arg5 arg6 (R 7) (hR 7)) 16 (le_refl 16) K

/-- The body after the device is read. -/
def body : KProg F :=
  .op (.semSignal (ny, .tc) barrier0 1) fun _ =>
  .op (.semSignal (nx, .tc) barrier0 1) fun _ =>
  .op (.semSignal (nz, .tc) barrier0 1) fun _ =>
  .op (.semWait barrier0 3) fun _ =>
  ySend arg1 arg2 arg4 arg7 arg8 ny 0 0 (R 0) (hR 0) <| ySend arg1 arg2 arg4 arg7 arg8 ny 1 0 (R 0) (hR 0) <|
  ySend arg1 arg2 arg4 arg7 arg8 ny 0 1 (R 1) (hR 1) <| ySend arg1 arg2 arg4 arg7 arg8 ny 1 1 (R 1) (hR 1) <|
  qStore arg0 arg6 harg6 <|
  upTo (locHead arg1 arg2 arg3 arg5 arg6) 16 (le_refl 16) <|
  lands arg1 arg2 arg3 arg4 arg5 arg6 arg8 arg9 arg10 arg11 arg12 nx nz R hR <|
  sentAll arg1 arg2 arg4 arg7 arg9 arg11 R hR (.ret ⟨⟩)

end Segments

/-! ## The printed body is the composition -/

/-- The quarters' words: `w` a device's x and z, either kept or flipped. -/
def wX (d : Dev nD) : BitVec 32 := Scalar.remsi (Scalar.divsi (Dev.word d) 4#32) 2#32
def wZ (d : Dev nD) : BitVec 32 := Scalar.remsi (Scalar.divsi (Dev.word d) 1#32) 2#32
def quarterW (a b : BitVec 32) : BitVec 32 := Scalar.muli (Scalar.addi (Scalar.muli 2#32 a) b) 256#32
/-- The rows of the eight chunks, in the order they are used, as the kernel computes them. -/
def rowsW (d : Dev nD) (p : Fin 8) : ℕ := match p with
  | 0 => (Scalar.addi (quarterW (wX d) (wZ d)) 0#32).toNat
  | 1 => (Scalar.addi (quarterW (wX d) (wZ d)) 128#32).toNat
  | 2 => (Scalar.addi (quarterW (Scalar.subi 1#32 (wX d)) (wZ d)) 0#32).toNat
  | 3 => (Scalar.addi (quarterW (Scalar.subi 1#32 (wX d)) (wZ d)) 128#32).toNat
  | 4 => (Scalar.addi (quarterW (wX d) (Scalar.subi 1#32 (wZ d))) 0#32).toNat
  | 5 => (Scalar.addi (quarterW (wX d) (Scalar.subi 1#32 (wZ d))) 128#32).toNat
  | 6 => (quarterW (Scalar.subi 1#32 (wX d)) (Scalar.subi 1#32 (wZ d))).toNat
  | 7 => (Scalar.addi (quarterW (Scalar.subi 1#32 (wX d)) (Scalar.subi 1#32 (wZ d))) 128#32).toNat

theorem rowsW_le : ∀ (d : Dev nD) (p : Fin 8), rowsW d p + 128 ≤ 1024 := by decide +kernel

end Cert.Attn

end
-- ==== Proof.Proto.lean ====
/- The exchange: the devices' neighbours, the chunks each device's landing buffer receives, the semaphores' cells,
   the schedule of what each cell's round hands over, what each device owes at launch, and the levels. -/
module

public import proofs.«01_k».proof.Proof.Segs
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline's copy and the exchange's, whose duties are numbered below 3 -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The neighbours and the chunks -/

/-- The device across y (0), x (1), z (2). -/
def nbd (d : Fin 3) (c : Dev nD) : Dev nD := match d with
  | 0 => (![2, 3, 0, 1, 6, 7, 4, 5] : Fin 8 → Fin 8) c
  | 1 => (![4, 5, 6, 7, 0, 1, 2, 3] : Fin 8 → Fin 8) c
  | 2 => (![1, 0, 3, 2, 5, 4, 7, 6] : Fin 8 → Fin 8) c

theorem nbd_nbd : ∀ (d : Fin 3) (c : Dev nD), nbd d (nbd d c) = c := by decide +kernel
theorem dev1_eq : ∀ c : Dev nD, (⟨k0_dev1 c, k0_dev1_lt c⟩ : Dev nD) = nbd 0 c := by
  intro c; apply Fin.ext; show k0_dev1 c = _; rw [k0_dev1_eq]; revert c; decide +kernel
theorem dev2_eq : ∀ c : Dev nD, (⟨k0_dev2 c, k0_dev2_lt c⟩ : Dev nD) = nbd 1 c := by
  intro c; apply Fin.ext; show k0_dev2 c = _; rw [k0_dev2_eq]; revert c; decide +kernel
theorem dev3_eq : ∀ c : Dev nD, (⟨k0_dev3 c, k0_dev3_lt c⟩ : Dev nD) = nbd 2 c := by
  intro c; apply Fin.ext; show k0_dev3 c = _; rw [k0_dev3_eq]; revert c; decide +kernel

/-- The direction chunk `p` lands from. -/
def dirOf (p : Fin 8) : Fin 3 := (![0, 0, 1, 1, 2, 2, 1, 2] : Fin 8 → Fin 3) p
/-- The neighbour chunk `p` lands from, and is sent to. -/
abbrev nb (p : Fin 8) (c : Dev nD) : Dev nD := nbd (dirOf p) c
/-- The sender's own number of the chunk it sends as the receiver's `p`. -/
def sp (p : Fin 8) : Fin 8 := (![0, 1, 0, 1, 0, 1, 4, 3] : Fin 8 → Fin 8) p

theorem rows_nb : ∀ (p : Fin 8) (c : Dev nD), rowsW (nb p c) p = rowsW c (sp p) := by decide +kernel

/-- The number, among the eight blocks of 128 rows, of a device's chunk. -/
def blkOf (c : Dev nD) (p : Fin 8) : Fin 8 := ⟨rowsW c p / 128, by have := rowsW_le c p; omega⟩
theorem rowsW_blk : ∀ (c : Dev nD) (p : Fin 8), rowsW c p = 128 * (blkOf c p).val := by decide +kernel
theorem blkOf_inj : ∀ (c : Dev nD) (p p' : Fin 8), blkOf c p = blkOf c p' → p = p' := by decide +kernel
theorem blkOf_surj : ∀ (c : Dev nD) (b : Fin 8), ∃ p, blkOf c p = b := by decide +kernel

/-! ## The windows' elements -/

/-- The elements of 128 rows of the landing buffer's plane `t`, from row `r`. -/
def winS (t : Fin 2) (r : ℕ) : Finset S2x1024x2048.Idx :=
  Finset.univ.filter fun i => (i 0 : ℕ) = t.val ∧ r ≤ (i 1 : ℕ) ∧ (i 1 : ℕ) < r + 128
/-- The elements of 128 rows of an operand, from row `r`. -/
def srcS (r : ℕ) : Finset S1024x2048.Idx := Finset.univ.filter fun i => r ≤ (i 0 : ℕ) ∧ (i 0 : ℕ) < r + 128

theorem mem_winS {t : Fin 2} {r : ℕ} {i : S2x1024x2048.Idx} : i ∈ winS t r ↔ (i 0 : ℕ) = t.val ∧ r ≤ (i 1 : ℕ) ∧ (i 1 : ℕ) < r + 128 := by
  simp [winS]
theorem mem_srcS {r : ℕ} {i : S1024x2048.Idx} : i ∈ srcS r ↔ r ≤ (i 0 : ℕ) ∧ (i 0 : ℕ) < r + 128 := by
  simp [srcS]

abbrev kM : Memref sig .tc .vmem S2x1024x2048 .f32 := Memref.whole cc0_scratch0
abbrev lM : Memref sig .tc .vmem S1024x128 .f32 := Memref.whole cc0_scratch1
abbrev qsM : Memref sig .tc .vmem S1024x2048 .bf16 := Memref.whole cc0_scratch2
abbrev qM : Memref sig .tc .vmem S1024x2048 .f32 := Memref.whole cc0_stg0_0
abbrev k1M : Memref sig .tc .vmem S1024x2048 .f32 := Memref.whole cc0_stg1_0
abbrev v1M : Memref sig .tc .vmem S1024x2048 .f32 := Memref.whole cc0_stg2_0
abbrev oM : Memref sig .tc .vmem S1024x2048 .f32 := Memref.whole cc0_stg3_0

theorem winM_set (t : Fin 2) (r : ℕ) (hr : r + 128 ≤ 1024) : (winM kM t r hr).view.set = winS t r := by
  have e : (winM kM t r hr).view.set = (Rect.unit (s := S2x1024x2048) ![t.val, r, 0] S1x128x2048.size (inb_win t.isLt hr)).set :=
    (View.set_reshape _ _).trans (View.set_slice_whole cc0_scratch0 _)
  refine e.trans ?_
  ext i
  rw [Rect.mem_set_unit, mem_winS]
  have h2 : (i 2 : ℕ) < 2048 := (i 2).isLt
  constructor
  · intro h
    have h0 := h 0; have h1 := h 1
    simp [S1x128x2048] at h0 h1
    omega
  · intro h a
    fin_cases a <;> simp [S1x128x2048] <;> omega

theorem winM_emb (t : Fin 2) (r : ℕ) (hr : r + 128 ≤ 1024) (x : Fin 128) (y : Fin 2048) :
    (winM kM t r hr).view.emb (ix2 x y) = (ix3 t ⟨r + x.val, by omega⟩ y : S2x1024x2048.Idx) := by
  show (Rect.unit (s := S2x1024x2048) ![t.val, r, 0] S1x128x2048.size (inb_win t.isLt hr)).emb
    (Shape.reshapeEquiv squeezes_S1x128x2048_S128x2048.numel_eq (ix2 x y)) = _
  rw [reshapeEquiv_ix2_1ab]
  funext a
  apply Fin.ext
  match a with
  | ⟨0, _⟩ => show t.val + 1 * 0 = t.val; omega
  | ⟨1, _⟩ => show r + 1 * x.val = r + x.val; omega
  | ⟨2, _⟩ => show 0 + 1 * y.val = y.val; omega

/-! ## The contents -/

/-- A device's staged queries, keys and values. -/
def qX (c : Dev nD) : S1024x2048.Idx → Elt F .f32 := (win0_0.blk (0 : Fin 1)).view.read (Elt F) (m ((c : Thread nD τ).loc main_arg0))
def kX (c : Dev nD) : S1024x2048.Idx → Elt F .f32 := (win0_1.blk (0 : Fin 1)).view.read (Elt F) (m ((c : Thread nD τ).loc main_arg1))
def vX (c : Dev nD) : S1024x2048.Idx → Elt F .f32 := (win0_2.blk (0 : Fin 1)).view.read (Elt F) (m ((c : Thread nD τ).loc main_arg2))
/-- The operand sent on plane `t`. -/
def kvX (c : Dev nD) (t : Fin 2) : S1024x2048.Idx → Elt F .f32 := match t with | 0 => kX m c | 1 => vX m c

/-- The device whose rows `r` land at rows `r` of device `c`'s landing buffer. -/
def srcDev (c : Dev nD) (r : Fin 1024) : Dev nD := ⟨4 * (r.val / 512) + 2 * (1 - c.val / 2 % 2) + r.val / 256 % 2, by have := r.isLt; show _ < 8; omega⟩

/-- What device `c`'s landing buffer holds at the end. -/
def land (c : Dev nD) : S2x1024x2048.Idx → Elt F .f32 := fun i => kvX m (srcDev c (i 1)) (i 0) (ix2 (i 1) (i 2))

theorem srcDev_nb : ∀ (p : Fin 8) (c : Dev nD) (r : Fin 1024), 2 ≤ p.val → srcDev (nb p c) r = srcDev c r := by
  intro p c r hp
  have : (nb p c).val / 2 % 2 = c.val / 2 % 2 := by revert p c; decide +kernel
  apply Fin.ext; unfold srcDev; dsimp only; rw [this]
theorem land_nb (p : Fin 8) (c : Dev nD) (hp : 2 ≤ p.val) : land m (nb p c) = land m c := by
  funext i; exact congrArg (fun d => kvX m d (i 0) (ix2 (i 1) (i 2))) (srcDev_nb p c (i 1) hp)
theorem srcDev_y : ∀ (p : Fin 8) (c : Dev nD) (x : Fin 128), p.val < 2 →
    srcDev (nb p c) ⟨rowsW c p + x.val, by have := rowsW_le c p; omega⟩ = c := by
  intro p c x hp
  have h1 : (nb p c).val / 2 % 2 = 1 - c.val / 2 % 2 := by revert p c; decide +kernel
  have h2 : rowsW c p = 128 * (4 * (c.val / 4) + 2 * (c.val % 2) + p.val) := by revert p c; decide +kernel
  apply Fin.ext
  unfold srcDev
  dsimp only
  rw [h1, h2]
  have := c.isLt
  have hc : c.val < 8 := c.isLt
  omega

/-! ## Points-tos -/

/-- Elements `S` of device `c`'s staged keys (0) or values (1). -/
def kvPts (c : Dev nD) (t : Fin 2) (S : Finset S1024x2048.Idx) (q : PosShare TreeShare) (f : S1024x2048.Idx → Elt F .f32) : sProp 𝕄 := match t with
  | 0 => iprop(((c : Thread nD τ).loc cc0_stg1_0) ↦[S]{q} f)
  | 1 => iprop(((c : Thread nD τ).loc cc0_stg2_0) ↦[S]{q} f)
/-- The 128 rows from `r` of device `c`'s landing buffer's plane `t`. -/
def winPts (c : Dev nD) (t : Fin 2) (r : ℕ) (q : PosShare TreeShare) (f : S2x1024x2048.Idx → Elt F .f32) : sProp 𝕄 :=
  iprop(((c : Thread nD τ).loc cc0_scratch0) ↦[winS t r]{q} f)

omit [FloatOps F] in
instance kvPts_storable (c : Dev nD) (t S q f) : BI.Storable (upEmb : UEmb _ 𝕄) (kvPts (F := F) c t S q f) := by unfold kvPts; split <;> infer_instance
omit [FloatOps F] in
instance winPts_storable (c : Dev nD) (t r q f) : BI.Storable (upEmb : UEmb _ 𝕄) (winPts (F := F) c t r q f) := by unfold winPts; infer_instance

/-! ## The cells -/

/-- The semaphore a device's send of chunk `p` of plane `t` completes on; -/
def sSem (t : Fin 2) (p : Fin 8) : DmaSem sig := match p with
  | 0 => sm2 cc0_scratch3 t 0 | 1 => sm2 cc0_scratch3 t 1
  | 2 => sm3 cc0_scratch5 t 0 | 3 => sm3 cc0_scratch5 t 1
  | 4 => sm3 cc0_scratch7 t 0 | 5 => sm3 cc0_scratch7 t 1
  | 6 => sm3 cc0_scratch5 t 2 | 7 => sm3 cc0_scratch7 t 2
/-- the one its landing completes on, on the receiver. -/
def rSem (t : Fin 2) (p : Fin 8) : DmaSem sig := match p with
  | 0 => sm2 cc0_scratch4 t 0 | 1 => sm2 cc0_scratch4 t 1
  | 2 => sm3 cc0_scratch6 t 0 | 3 => sm3 cc0_scratch6 t 1
  | 4 => sm3 cc0_scratch8 t 0 | 5 => sm3 cc0_scratch8 t 1
  | 6 => sm3 cc0_scratch6 t 2 | 7 => sm3 cc0_scratch8 t 2

/-- The index of a device's transfer cells: the sends' (false) and the landings' (true). -/
abbrev XI : Type := Bool × Fin 2 × Fin 8
/-- The cells' index: the barrier, and the transfers'. -/
abbrev CI : Type := Option XI
def xsem (k : XI) : SemLoc sig := if k.1 then .dma (rSem k.2.1 k.2.2) else .dma (sSem k.2.1 k.2.2)
def csem (k : CI) : SemLoc sig := match k with
  | none => .reg barrier0
  | some k => xsem k
abbrev kcell (c : Dev nD) (k : CI) : GSem nD τ sig := ((c : Thread nD τ), csem k)
abbrev barCell (c : Dev nD) : GSem nD τ sig := kcell c none
abbrev sCell (c : Dev nD) (t : Fin 2) (p : Fin 8) : GSem nD τ sig := kcell c (some (false, t, p))
abbrev rCell (c : Dev nD) (t : Fin 2) (p : Fin 8) : GSem nD τ sig := kcell c (some (true, t, p))

/-- Every cell's index. -/
def allCI : List CI := none :: ((List.finRange 2).flatMap fun t => (List.finRange 8).flatMap fun p => [some (false, t, p), some (true, t, p)])
/-- The index of a semaphore of the exchange. -/
def deco (sm : SemLoc sig) : Option CI := allCI.find? fun k => csem k = sm

set_option maxRecDepth 20000 in
theorem deco_csem : ∀ k : CI, deco (csem k) = some k := by decide +kernel
theorem csem_injective : Function.Injective csem := fun k k' h => by
  have := deco_csem k; rw [h, deco_csem k'] at this; exact (Option.some.inj this).symm
theorem deco_some {sm : SemLoc sig} {k : CI} (h : deco sm = some k) : csem k = sm := by
  have := List.find?_some h; exact of_decide_eq_true this

/-- What a window's transfer credits. -/
abbrev N : ℕ := sig.dmaCredit .tc (Kind.table .tc .vmem) (winM kM 0 0 (by decide)).view.buf S128x2048 .f32
theorem N_pos : 0 < N := View.dmaCredit_pos (winM kM 0 0 (by decide)).view (by decide)

/-! ## The schedule -/

/-- The share of its source a send carries. -/
def sq (p : Fin 8) : PosShare TreeShare := match p with
  | 0 | 1 => fullShare.right
  | 2 | 3 => fullShare.right.left
  | 4 | 5 => fullShare.right.right
  | 6 | 7 => fullShare.right

/-- Chunk `p`'s two windows of device `c`, whole, at any contents. -/
def dstW (c : Dev nD) (p : Fin 8) : sProp 𝕄 :=
  iprop((∃ f, winPts c 0 (rowsW c p) fullShare f) ∗ (∃ f, winPts c 1 (rowsW c p) fullShare f))
/-- What device `c` receives with its neighbour `d`'s barrier signal: the windows it sends into. -/
def barPay (c : Dev nD) (d : Fin 3) : sProp 𝕄 := match d with
  | 0 => iprop(dstW (nbd 0 c) 0 ∗ dstW (nbd 0 c) 1)
  | 1 => iprop(dstW (nbd 1 c) 2 ∗ dstW (nbd 1 c) 3 ∗ dstW (nbd 1 c) 6)
  | 2 => iprop(dstW (nbd 2 c) 4 ∗ dstW (nbd 2 c) 5 ∗ dstW (nbd 2 c) 7)
/-- A completed send gives its source back; -/
def sendPay (c : Dev nD) (t : Fin 2) (p : Fin 8) : sProp 𝕄 :=
  if p.val < 2 then kvPts c t (srcS (rowsW c p)) (sq p) (kvX m c t) else winPts c t (rowsW c (sp p)) (sq p) (land m c)
/-- a landing, the window holding its chunk. -/
def recvPay (c : Dev nD) (t : Fin 2) (p : Fin 8) : sProp 𝕄 := winPts c t (rowsW c p) fullShare (land m c)

def cellDuties (k : Option CI) : Finset (Fin 3) := match k with
  | none => ∅ | some none => Finset.univ | some (some _) => {0}
def cellAmount (k : Option CI) : ℕ := match k with
  | some (some _) => N | _ => 1
def cellPay (c : Dev nD) (k : Option CI) (d : Fin 3) : sProp 𝕄 := match k with
  | none => iprop(emp)
  | some none => barPay c d
  | some (some (false, t, p)) => sendPay m c t p
  | some (some (true, t, p)) => recvPay m c t p

/-- One round of each cell. -/
def Rd : Rounds.Schedule (GSem nD τ sig) (Fin 3) 𝕄 where
  duties g r := if r = 0 ∧ g.1.2 = .tc then cellDuties (deco g.2) else ∅
  unitless _ := False
  amount g _ _ := cellAmount (deco g.2)
  payload g _ d := cellPay m g.1.1 (deco g.2) d
  amount_pos g _ _ _ := by
    unfold cellAmount; split
    · exact N_pos
    · exact Nat.one_pos

instance Rd_payload_storable (g : GSem nD τ sig) (r : ℕ) (d : Fin 3) : BI.Storable (upEmb : UEmb _ 𝕄) ((Rd (F := F) m).payload g r d) := by
  show BI.Storable upEmb (cellPay m g.1.1 (deco g.2) d)
  unfold cellPay barPay sendPay recvPay dstW
  (repeat' split) <;> infer_instance

section Sched
variable (c : Dev nD) (k : CI)

theorem duties_cell : (Rd (F := F) m).duties (kcell c k) 0 = cellDuties (some k) := by
  dsimp only [Rd]; rw [if_pos ⟨rfl, rfl⟩, deco_csem]
theorem duties_later (g : GSem nD τ sig) : ∀ r, 1 ≤ r → (Rd (F := F) m).duties g r = ∅ :=
  fun r hr => by dsimp only [Rd]; rw [if_neg fun h => by omega]
theorem amount_cell (d : Fin 3) : (Rd (F := F) m).amount (kcell c k) 0 d = cellAmount (some k) := by
  dsimp only [Rd]; rw [deco_csem]
theorem payload_cell (d : Fin 3) : (Rd (F := F) m).payload (kcell c k) 0 d = cellPay m c (some k) d := by
  dsimp only [Rd]; rw [deco_csem]
theorem expect_bar : (Rd (F := F) m).expect (barCell c) 0 = 3 := by
  unfold Schedule.expect Schedule.amountOf
  rw [duties_cell, Finset.sum_congr rfl fun d _ => amount_cell m c none d]; rfl
theorem expect_x (k : XI) : (Rd (F := F) m).expect (kcell c (some k)) 0 = N := by
  unfold Schedule.expect Schedule.amountOf
  rw [duties_cell]
  show ∑ d ∈ {0}, _ = _
  rw [Finset.sum_singleton, amount_cell]; rfl
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_cell]
  show bigSep Finset.univ _ = _
  rw [bigSep_univ_eq_bigSepL [0, 1, 2] (by decide) (by decide), bigSepL_cons_cons, bigSepL_cons_cons, bigSepL_singleton,
    payload_cell, payload_cell, payload_cell]
  rfl
theorem rest_x (k : XI) : bigSep ((Rd (F := F) m).duties (kcell c (some k)) 0 \ ∅) (fun d => (Rd (F := F) m).payload (kcell c (some k)) 0 d)
    = cellPay m c (some (some k)) 0 := by
  rw [Finset.sdiff_empty, duties_cell]
  show bigSep {0} _ = _
  rw [bigSep_singleton, payload_cell]

end Sched

/-! ## What each core owes at launch; the levels -/

/-- What a device pays: its signal to a neighbour's barrier, or the landing of its send of a chunk. -/
abbrev Item : Type := Fin 3 ⊕ (Fin 2 × Fin 8)
def itCI : Item → CI | .inl _ => none | .inr (t, p) => some (true, t, p)
def itDir : Item → Fin 3 | .inl d => d | .inr (_, p) => dirOf p
def itAmt : Item → ℕ | .inl _ => 1 | .inr _ => N
abbrev itCell (c : Dev nD) (x : Item) : GSem nD τ sig := kcell (nbd (itDir x) c) (itCI x)

/-- Owing a list of items, the first the last summand. -/
def owe (c : Dev nD) : List Item → CellTallies nD τ sig Unit
  | [] => 0
  | x :: xs => owe c xs + tallyAt (itCell c x) () (itAmt x)

/-- The sends, in the order they are issued; -/
def sends : List (Fin 2 × Fin 8) :=
  [(0, 0), (1, 0), (0, 1), (1, 1), (0, 2), (0, 4), (1, 2), (1, 4), (0, 3), (0, 5), (1, 3), (1, 5), (0, 7), (1, 7), (0, 6), (1, 6)]
/-- everything owed. -/
def items : List Item := [.inl 0, .inl 1, .inl 2] ++ sends.map .inr
abbrev O₀ (c : Dev nD) : CellTallies nD τ sig Unit := owe c items

def L (g : GSem nD τ sig) : Finset Unit := if g.1.2 = .tc then {()} else ∅
/-- A chunk's landing's level: how many landings it waits for. -/
def ciLev (k : Option CI) : ℕ := match k with
  | some none => 1
  | some (some (true, _, p)) => if p.val < 2 then 2 else if p.val < 6 then 3 else 4
  | _ => 0
def lv (g : GSem nD τ sig) (_ : Unit) : ℕ := ciLev (deco g.2)

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {g : GSem nD τ sig} {u : Unit} : ∀ {l : List Item}, 0 < owe c l g u → ∃ x ∈ l, g = itCell c x
  | [], h => absurd h (Nat.lt_irrefl 0)
  | x :: xs, h => by
    unfold owe at h
    rw [Pi.add_apply, Finsupp.add_apply, tallyAt_apply] at h
    by_cases hg : g = itCell c x ∧ u = ()
    · exact ⟨x, List.mem_cons_self, hg.1⟩
    · rw [if_neg hg, Nat.add_zero] at h
      obtain ⟨y, hy, e⟩ := owe_pos h
      exact ⟨y, List.mem_cons_of_mem _ hy, e⟩

omit [FloatOps F] in
/-- A wait is allowed below the level of everything owed. -/
theorem mayWait (c : Dev nD) (sm : SemLoc sig) (l : List Item) (h : ∀ x ∈ l, ciLev (deco sm) < ciLev (some (itCI x))) :
    (levAts L lv : sProp 𝕄) ⊢ MayWait (c : Thread nD τ) sm () (owe c l) :=
  MayOwe.of_cut (L := L) (lev := lv) (ciLev (deco sm)) (fun p hp => by rw [Finset.mem_singleton.mp hp, L_tc]; exact Finset.mem_singleton_self _)
    (fun g u hg => by obtain ⟨x, hx, rfl⟩ := owe_pos hg; exact Finset.mem_singleton_self _)
    (fun p hp => by rw [Finset.mem_singleton.mp hp]; rfl)
    (fun g u hg => by
      obtain ⟨x, hx, rfl⟩ := owe_pos hg
      show _ < ciLev (deco (csem (itCI x)))
      rw [deco_csem]; exact h x hx)

end Cert.Attn

end
-- ==== Proof.Comm.lean ====
/- The exchange's steps: what a signal, a send and a wait take and give, over what each device holds of the
   schedule. -/
module

public import proofs.«01_k».proof.Proof.Proto

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program run on device `c` to `Q`. -/
abbrev wpK (c : Dev nD) (K : KProg F) (Q : PUnit → sProp 𝕄) : sProp 𝕄 :=
  wp frame (wpE (defs₀ (F := F)) 𝒱₀ (c : Thread nD τ) none) Set.univ K Q

/-! ## What every device knows -/

/-- Every cell's invariant, at the name it was allocated, and that every cell has reached its round. -/
def records (Kn : Dev nD × CI → ℕ) : sProp 𝕄 :=
  iprop((bigSep Finset.univ fun ck : Dev nD × CI => cellInv ER (Rd m) (Kn ck) (kcell ck.1 ck.2))
    ∗ bigSep Finset.univ fun ck : Dev nD × CI => reached ER (kcell ck.1 ck.2) 0)

instance records_persistent (Kn : Dev nD × CI → ℕ) : BI.Persistent (records m Kn) := by unfold records; infer_instance

theorem inv_at (Kn : Dev nD × CI → ℕ) (c : Dev nD) (k : CI) : records m Kn ⊢ cellInv ER (Rd m) (Kn (c, k)) (kcell c k) := by
  unfold records
  iintro ⟨H, -⟩
  iapply (show (bigSep Finset.univ fun ck : Dev nD × CI => (cellInv ER (Rd m) (Kn ck) (kcell ck.1 ck.2) : sProp 𝕄)) ⊢ cellInv ER (Rd m) (Kn (c, k)) (kcell c k)
    from bigSep_elim (Finset.mem_univ (c, k)))
  iexact H
theorem reached_at (Kn : Dev nD × CI → ℕ) (c : Dev nD) (k : CI) : records m Kn ⊢ reached ER (kcell c k) 0 := by
  unfold records
  iintro ⟨-, H⟩
  iapply (show (bigSep Finset.univ fun ck : Dev nD × CI => (reached ER (kcell ck.1 ck.2) 0 : sProp 𝕄)) ⊢ reached ER (kcell c k) 0
    from bigSep_elim (Finset.mem_univ (c, k)))
  iexact H

/-! ## What a device holds -/

/-- It owes a list of items, whatever it has waited for. -/
def ow (c : Dev nD) (l : List Item) : sProp 𝕄 := iprop(∃ W, owes (c : Thread nD τ) (owe c l) W)
/-- Its right to send a chunk. -/
def sTok (c : Dev nD) (t : Fin 2) (p : Fin 8) : sProp 𝕄 :=
  iprop(atPos ER (sCell c t p) 0 ∅ 0 ∗ dutyTok ER (sCell c t p) 0 0 ∗ dutyTok ER (rCell (nb p c) t p) 0 0)
/-- Its right to await a chunk. -/
def rTok (c : Dev nD) (t : Fin 2) (p : Fin 8) : sProp 𝕄 :=
  iprop(atPos ER (rCell c t p) 0 ∅ 0 ∗ cred (tallyAt (rCell c t p) () N))
/-- A send in flight. -/
def sRun (c : Dev nD) (t : Fin 2) (p : Fin 8) : sProp 𝕄 :=
  iprop(atPos ER (sCell c t p) 0 ∅ 0 ∗ cred (tallyAt (sCell c t p) () N))
/-- The window a send writes into. -/
def dst (c : Dev nD) (t : Fin 2) (p : Fin 8) : sProp 𝕄 := iprop(∃ f, winPts c t (rowsW c p) fullShare f)

/-! ## Steps -/

theorem write_win (n : Dev nD) (t : Fin 2) (r : ℕ) (hr : r + 128 ≤ 1024) (fd g : S2x1024x2048.Idx → Elt F .f32) (w : S128x2048.Idx → Elt F .f32)
    (h : ∀ (x : Fin 128) (y : Fin 2048), w (ix2 x y) = g (ix3 t ⟨r + x.val, by omega⟩ y)) :
    ∀ i ∈ winS t r, (winM kM t r hr).view.write (Elt F) fd w Finset.univ i = g i := by
  intro i hi
  obtain ⟨h0, h1, h2⟩ := mem_winS.mp hi
  have e : i = (winM kM t r hr).view.emb (ix2 (⟨(i 1).val - r, by omega⟩ : Fin 128) (i 2)) := by
    refine Eq.trans ?_ (winM_emb t r hr _ _).symm
    refine (eq_ix3 i).trans ?_
    have a0 : i 0 = t := Fin.ext h0
    have a1 : i 1 = (⟨r + ((i 1).val - r), by have := (i 1).isLt; omega⟩ : Fin 1024) := Fin.ext (by show (i 1).val = r + ((i 1).val - r); omega)
    funext a
    match a with
    | ⟨0, _⟩ => exact a0
    | ⟨1, _⟩ => exact a1
    | ⟨2, _⟩ => rfl
  rw [e]
  refine (View.write_emb_of_mem (v := (winM kM t r hr).view) fd w (Finset.mem_univ _)).trans ?_
  refine (h _ _).trans (congrArg g ?_)
  exact (winM_emb t r hr _ _).symm

theorem owe_cons (c : Dev nD) (x : Item) (xs : List Item) : owe c (x :: xs) = owe c xs + tallyAt (itCell c x) () (itAmt x) := rfl

theorem amount_win (t : Fin 2) (r : ℕ) (hr : r + 128 ≤ 1024) (p : Fin 8) (b : Bool) :
    (winM kM t r hr).view.amount (csem (some (b, t, p))) = N := by
  cases b <;> rfl

/-- The rule for a send at the exchange's cells. -/
theorem send_raw (Kn : Dev nD × CI → ℕ) (c : Dev nD) (t : Fin 2) (p : Fin 8) (r : ℕ) (hr : r + 128 ≤ 1024)
    (hrows : r = rowsW (nb p c) p) {src : Memref sig .tc .vmem S128x2048 .f32} {hsc : (winM kM t r hr).view.ref.isScScratch = false}
    {hsrc : src.view.WordExact} {hdst : (winM kM t r hr).view.WordExact}
    {hsem : DmaTarget.Typed .vmem (csem (some (true, t, p))) (.remote (Dev.tc (nb p c) : Thread nD τ) (winM kM t r hr) (csem (some (false, t, p))) hsc)}
    {q : PosShare TreeShare} {fs : Buf (Elt F) (src.view.loc (c : Thread nD τ))}
    (fd : Buf (Elt F) ((winM kM t r hr).view.loc (nb p c : Thread nD τ)))
    (hpay : (src.view.loc (c : Thread nD τ) ↦[src.view.set]{q} fs) ⊢ sendPay m c t p)
    (hread : ∀ (x : Fin 128) (y : Fin 2048), src.view.read (Elt F) fs (ix2 x y) = land m (nb p c) (ix3 t ⟨r + x.val, by omega⟩ y))
    (xs : List Item) (W : Waits sig Unit) {k : PUnit → KProg F} {Q : PUnit → sProp 𝕄} :
    iprop(cellInv ER (Rd m) (Kn (c, some (false, t, p))) (sCell c t p) ∗ cellInv ER (Rd m) (Kn (nb p c, some (true, t, p))) (rCell (nb p c) t p)
        ∗ (src.view.loc (c : Thread nD τ) ↦[src.view.set]{q} fs)
        ∗ ((winM kM t r hr).view.loc (nb p c : Thread nD τ) ↦[(winM kM t r hr).view.set]{fullShare} fd)
        ∗ owes (c : Thread nD τ) (owe c (.inr (t, p) :: xs)) W
        ∗ dutyTok ER (sCell c t p) 0 0 ∗ reached ER (sCell c t p) 0
        ∗ dutyTok ER (rCell (nb p c) t p) 0 0 ∗ reached ER (rCell (nb p c) t p) 0)
      ⊢ iprop(((cred (tallyAt (sCell c t p) () N) ∗ owes (c : Thread nD τ) (owe c xs) W) -∗ wpK c (k ⟨⟩) Q)
          -∗ wpK c (.op (.enqueueDma src (.remote (Dev.tc (nb p c) : Thread nD τ) (winM kM t r hr) (csem (some (false, t, p))) hsc)
              (csem (some (true, t, p))) hsrc hdst hsem) k) Q) :=
  Rounds.wp_send_pointsTo 𝒱₀ ER (Rd m) (c : Thread nD τ) none (κ₁ := Kn (c, some (false, t, p))) (κ₂ := Kn (nb p c, some (true, t, p)))
    (r₁ := 0) (r₂ := 0) (d₁ := 0) (d₂ := 0) (fd := fd)
    (by rw [duties_cell]; exact Finset.mem_singleton_self _)
    (by rw [duties_cell]; exact Finset.mem_singleton_self _)
    () () N (amount_win t r hr p true) (amount_cell m c (some (false, t, p)) 0) (amount_cell m (nb p c) (some (true, t, p)) 0) (owe c xs) (owe_cons c _ xs) (W := W)
    (by rw [payload_cell]; exact hpay)
    (by
      rw [payload_cell]
      show _ ⊢ winPts (nb p c) t (rowsW (nb p c) p) fullShare (land m (nb p c))
      rw [← hrows, winM_set]
      exact Entails.of_eq (pointsTo_congr (write_win (nb p c) t r hr fd _ _ hread)))

/-- A send of chunk `p` of plane `t`, from any source holding what is to land. -/
theorem send_step (Kn : Dev nD × CI → ℕ) (c n : Dev nD) (t : Fin 2) (p : Fin 8) (hn : n = nb p c) (r : ℕ) (hr : r + 128 ≤ 1024)
    (hrows : r = rowsW (nb p c) p) {src : Memref sig .tc .vmem S128x2048 .f32} {hsc : (winM kM t r hr).view.ref.isScScratch = false}
    {s s' : SemLoc sig} (hs : s = csem (some (false, t, p))) (hs' : s' = csem (some (true, t, p)))
    {hsrc : src.view.WordExact} {hdst : (winM kM t r hr).view.WordExact}
    {hsem : DmaTarget.Typed .vmem s' (.remote (Dev.tc n : Thread nD τ) (winM kM t r hr) s hsc)}
    {q : PosShare TreeShare} {fs : Buf (Elt F) (src.view.loc (c : Thread nD τ))}
    (hpay : (src.view.loc (c : Thread nD τ) ↦[src.view.set]{q} fs) ⊢ sendPay m c t p)
    (hread : ∀ (x : Fin 128) (y : Fin 2048), src.view.read (Elt F) fs (ix2 x y) = land m (nb p c) (ix3 t ⟨r + x.val, by omega⟩ y))
    (xs : List Item) {k : PUnit → KProg F} {Q : PUnit → sProp 𝕄} :
    iprop(records m Kn ∗ sTok c t p ∗ dst (nb p c) t p ∗ (src.view.loc (c : Thread nD τ) ↦[src.view.set]{q} fs) ∗ ow c (.inr (t, p) :: xs))
      ⊢ iprop(((sRun c t p ∗ ow c xs) -∗ wpK c (k ⟨⟩) Q)
          -∗ wpK c (.op (.enqueueDma src (.remote (Dev.tc n : Thread nD τ) (winM kM t r hr) s hsc) s' hsrc hdst hsem) k) Q) := by
  subst hn
  subst hs
  subst hs'
  unfold sTok dst ow sRun
  iintro ⟨#HR, ⟨Hat, HtS, HtR⟩, ⟨%fd, Hd⟩, Hs, ⟨%W, HO⟩⟩
  iintro Hk
  iapply (send_raw m Kn c t p r hr hrows fd hpay hread xs W (hsrc := hsrc) (hdst := hdst) (hsem := hsem) (k := k) (Q := Q)) $$ [HtS HtR Hd Hs HO]
  · isplitr; · iapply (inv_at m Kn c _); iexact HR
    isplitr; · iapply (inv_at m Kn (nb p c) _); iexact HR
    isplitl [Hs]; · iexact Hs
    isplitl [Hd]
    · rw [winM_set]; unfold winPts; rw [← hrows]; iexact Hd
    isplitl [HO]; · iexact HO
    isplitl [HtS]; · iexact HtS
    isplitr; · iapply (reached_at m Kn c _); iexact HR
    isplitl [HtR]; · iexact HtR
    iapply (reached_at m Kn (nb p c) _); iexact HR
  iintro ⟨Hc, HO⟩
  iapply Hk
  isplitl [Hat Hc]
  · isplitl [Hat]; · iexact Hat
    iexact Hc
  iexists W; iexact HO

/-- A wait on a transfer's cell: its payload, and the cell closed. -/
theorem wait_step (Kn : Dev nD × CI → ℕ) (c : Dev nD) (k : XI) {s : DmaSem sig} (hs : SemLoc.dma s = csem (some k)) {sp₁ sp₂ : Space} {s₁ : Shape} {e₁ : EltTy}
    {a : Memref sig .tc sp₁ s₁ e₁} {b : Memref sig .tc sp₂ s₁ e₁} {ha : a.view.WordExact} {hb : b.view.WordExact} (hN : b.view.dmaCredit = N)
    (l : List Item) (hl : ∀ x ∈ l, ciLev (some (some k)) < ciLev (some (itCI x))) {K : PUnit → KProg F} {Q : PUnit → sProp 𝕄} :
    iprop(records m Kn ∗ levAts L lv ∗ atPos ER (kcell c (some k)) 0 ∅ 0 ∗ cred (tallyAt (kcell c (some k)) () N) ∗ ow c l)
      ⊢ iprop(((semVal (kcell c (some k)) 0 ∗ cellPay m c (some (some k)) 0 ∗ ow c l) -∗ wpK c (K ⟨⟩) Q)
          -∗ wpK c (.op (.waitDma2 s a b ha hb) K) Q) := by
  unfold ow
  iintro ⟨#HR, #HL, Hat, Hc, ⟨%W, HO⟩⟩
  iintro Hk
  iapply (Rounds.wp_wait_rest_token 𝒱₀ ER (Rd m) (c : Thread nD τ) none (κ := Kn (c, some k)) (sm := SemLoc.dma s) (k' := b.view.dmaCredit)
      (wpE_waitDma2_eq 𝒱₀ (c : Thread nD τ) none Set.univ) (Set.mem_univ _) () (O := owe c l) (W := W) (R := 0) (m := 0) (T := ∅)
      (by rw [Nat.zero_add, hs]; exact hN.trans (expect_x m c k).symm)) $$ [Hat Hc HO]
  · rw [hs, hN]
    isplitr; · iapply (inv_at m Kn c (some k)); iexact HR
    isplitl [Hc]; · iexact Hc
    isplitl [HO]; · iexact HO
    isplitr
    · iapply (mayWait (F := F) c (csem (some k)) l (by rw [deco_csem]; exact hl)); iexact HL
    iexact Hat
  rw [hs]
  iintro ⟨HO, Hat, -, Hp⟩
  ihave Hp' := (Entails.of_eq (rest_x m c k)) $$ Hp
  imod (Rounds.cell_close ER (Rd m) (Set.mem_univ (Kn (c, some k))) (fun h => h) (R := 0 + 1) (duties_later m (kcell c (some k)))) $$ [Hat] with Hz
  · isplitr; · iapply (inv_at m Kn c (some k)); iexact HR
    iexact Hat
  iapply Hk
  isplitl [Hz]; · iexact Hz
  isplitl [Hp']; · iexact Hp'
  iexists _; iexact HO

/-- The wait on the barrier: the windows the neighbours hand over, and the cell closed. -/
theorem bar_wait (Kn : Dev nD × CI → ℕ) (c : Dev nD) (l : List Item) (hl : ∀ x ∈ l, ciLev (some none) < ciLev (some (itCI x)))
    {K : PUnit → KProg F} {Q : PUnit → sProp 𝕄} :
    iprop(records m Kn ∗ levAts L lv ∗ atPos ER (barCell c) 0 ∅ 0 ∗ cred (tallyAt (barCell c) () 3) ∗ ow c l)
      ⊢ iprop(((semVal (barCell c) 0 ∗ (barPay c 0 ∗ barPay c 1 ∗ barPay c 2) ∗ ow c l) -∗ wpK c (K ⟨⟩) Q)
          -∗ wpK c (.op (.semWait barrier0 3) K) Q) := by
  unfold ow
  iintro ⟨#HR, #HL, Hat, Hc, ⟨%W, HO⟩⟩
  iintro Hk
  iapply (Rounds.wp_wait_rest_token 𝒱₀ ER (Rd m) (c : Thread nD τ) none (κ := Kn (c, none)) (sm := csem none) (k' := 3)
      (wpE_semWait_eq 𝒱₀ (c : Thread nD τ) none Set.univ) (Set.mem_univ _) () (O := owe c l) (W := W) (R := 0) (m := 0) (T := ∅)
      (by rw [Nat.zero_add]; exact (expect_bar m c).symm)) $$ [Hat Hc HO]
  · isplitr; · iapply (inv_at m Kn c none); iexact HR
    isplitl [Hc]; · iexact Hc
    isplitl [HO]; · iexact HO
    isplitr
    · iapply (mayWait (F := F) c (csem none) l (by rw [deco_csem]; exact hl)); iexact HL
    iexact Hat
  iintro ⟨HO, Hat, -, Hp⟩
  ihave Hp' := (Entails.of_eq (rest_bar m c)) $$ Hp
  imod (Rounds.cell_close ER (Rd m) (Set.mem_univ (Kn (c, none))) (fun h => h) (R := 0 + 1) (duties_later m (barCell c))) $$ [Hat] with Hz
  · isplitr; · iapply (inv_at m Kn c none); iexact HR
    iexact Hat
  iapply Hk
  isplitl [Hz]; · iexact Hz
  isplitl [Hp']; · iexact Hp'
  iexists _; iexact HO

/-- A signal to the barrier of the neighbour across `d`: the windows it sends into. -/
theorem signal_step (Kn : Dev nD × CI → ℕ) (c n : Dev nD) (d : Fin 3) (hn : n = nbd d c) (xs : List Item)
    {K : PUnit → KProg F} {Q : PUnit → sProp 𝕄} :
    iprop(records m Kn ∗ dutyTok ER (barCell (nbd d c)) 0 d ∗ barPay (nbd d c) d ∗ ow c (.inl d :: xs))
      ⊢ iprop((ow c xs -∗ wpK c (K ⟨⟩) Q) -∗ wpK c (.op (.semSignal (n, .tc) barrier0 1) K) Q) := by
  subst hn
  unfold ow
  iintro ⟨#HR, Ht, Hp, ⟨%W, HO⟩⟩
  iintro Hk
  iapply (Rounds.wp_signal 𝒱₀ ER (Rd m) (c : Thread nD τ) none (dst := (nbd d c : Thread nD τ)) (κ := Kn (nbd d c, none))
      (d := d) (by
        rw [show (((nbd d c : Thread nD τ), SemLoc.reg barrier0) : GSem nD τ sig) = barCell (nbd d c) from rfl, duties_cell]; exact Finset.mem_univ _)
      (show _ = 1 from amount_cell m (nbd d c) none d) () (owe c xs)
      (show owe c (.inl d :: xs) = owe c xs + tallyAt (((nbd d c : Thread nD τ), SemLoc.reg barrier0)) () 1 from rfl)) $$ [HO Ht Hp]
  · isplitr; · iapply (inv_at m Kn (nbd d c) none); iexact HR
    isplitl [HO]; · iexact HO
    isplitl [Ht]; · iexact Ht
    isplitl [Hp]
    · rw [show (((nbd d c : Thread nD τ), SemLoc.reg barrier0) : GSem nD τ sig) = barCell (nbd d c) from rfl, payload_cell]; unfold cellPay; iexact Hp
    iapply (reached_at m Kn (nbd d c) none); iexact HR
  iintro HO
  iapply Hk
  iexists W; iexact HO

/-! ## The segments' steps -/

theorem srcM_set (t : Fin 2) (r : ℕ) (hr : r + 128 ≤ 1024) : (srcM (kvM k1M v1M t) r hr).view.set = (match t with | 0 => srcS r | 1 => srcS r) := by
  have key : (Rect.unit (s := S1024x2048) ![r, 0] S128x2048.size (inb_src hr)).set = srcS r := by
    ext i
    rw [Rect.mem_set_unit, mem_srcS]
    have h1 : (i 1 : ℕ) < 2048 := (i 1).isLt
    constructor
    · intro h
      have h0 := h 0
      simp [S128x2048] at h0
      omega
    · intro h a
      fin_cases a <;> simp [S128x2048] <;> omega
  match t with
  | 0 => exact (View.set_slice_whole cc0_stg1_0 _).trans key
  | 1 => exact (View.set_slice_whole cc0_stg2_0 _).trans key

theorem src_emb (r : ℕ) (hr : r + 128 ≤ 1024) (x : Fin 128) (y : Fin 2048) :
    (Rect.unit (s := S1024x2048) ![r, 0] S128x2048.size (inb_src hr)).emb (ix2 x y) = (ix2 ⟨r + x.val, by omega⟩ y : S1024x2048.Idx) := by
  funext a
  apply Fin.ext
  match a with
  | ⟨0, _⟩ => show r + 1 * x.val = r + x.val; omega
  | ⟨1, _⟩ => show 0 + 1 * y.val = y.val; omega

theorem land_y (c : Dev nD) (t : Fin 2) (p : Fin 8) (hp : p.val < 2) (hr : rowsW c p + 128 ≤ 1024) (x : Fin 128) (y : Fin 2048) :
    land m (nb p c) (ix3 t ⟨rowsW c p + x.val, by omega⟩ y) = kvX m c t (ix2 ⟨rowsW c p + x.val, by omega⟩ y) :=
  congrArg (fun d => kvX m d t (ix2 ⟨rowsW c p + x.val, by omega⟩ y)) (srcDev_y p c x hp)

theorem rows_y (c : Dev nD) (p : Fin 8) (hp : p.val < 2) : rowsW c p = rowsW (nb p c) p := by
  rw [rows_nb]; congr 1; revert p; decide

/-- A send over y. -/
theorem ySend_step (Kn : Dev nD × CI → ℕ) (c n : Dev nD) (hn : n = nbd 0 c) (t cc : Fin 2) (p : Fin 8) (hp : p = ⟨cc.val, by omega⟩) (hr : rowsW c p + 128 ≤ 1024) (xs : List Item)
    {K : KProg F} {Q : PUnit → sProp 𝕄} :
    iprop(records m Kn ∗ sTok c t p ∗ dst (nb p c) t p ∗ kvPts c t (srcS (rowsW c p)) fullShare.right (kvX m c t) ∗ ow c (.inr (t, p) :: xs))
      ⊢ iprop(((sRun c t p ∗ ow c xs) -∗ wpK c K Q) -∗ wpK c (ySend k1M v1M kM cc0_scratch3 cc0_scratch4 n t cc (rowsW c p) hr K) Q) := by
  have hlt : p.val < 2 := by rw [hp]; exact cc.isLt
  have hdir : nbd 0 c = nb p c := by rw [hp]; match cc with | 0 => rfl | 1 => rfl
  have hs : SemLoc.dma (sm2 cc0_scratch3 t cc) = csem (some (false, t, p)) := by rw [hp]; match cc with | 0 => rfl | 1 => rfl
  have hs' : SemLoc.dma (sm2 cc0_scratch4 t cc) = csem (some (true, t, p)) := by rw [hp]; match cc with | 0 => rfl | 1 => rfl
  have hq : sq p = fullShare.right := by rw [hp]; match cc with | 0 => rfl | 1 => rfl
  unfold ySend
  match t with
  | 0 =>
    refine BIBase.Entails.trans ?_ (send_step m Kn c n 0 p (hn.trans hdir) (rowsW c p) hr (rows_y c p hlt) hs hs' (src := srcM k1M (rowsW c p) hr)
      (q := fullShare.right) (fs := kX m c)
      (by
        unfold sendPay; rw [if_pos hlt, hq]; unfold kvPts
        exact Entails.of_eq (congrArg (fun S => (((c : Thread nD τ).loc cc0_stg1_0) ↦[S]{fullShare.right} (kX m c) : sProp 𝕄)) (srcM_set 0 _ hr)))
      (fun x y => by
        refine Eq.trans ?_ (land_y m c 0 p hlt hr x y).symm
        exact congrArg (kX m c) (src_emb _ hr x y)) xs (k := fun _ => K))
    refine sep_mono_right (sep_mono_right (sep_mono_right (sep_mono_left ?_)))
    unfold kvPts
    exact Entails.of_eq (congrArg (fun S => (((c : Thread nD τ).loc cc0_stg1_0) ↦[S]{fullShare.right} (kX m c) : sProp 𝕄)) (srcM_set 0 _ hr).symm)
  | 1 =>
    refine BIBase.Entails.trans ?_ (send_step m Kn c n 1 p (hn.trans hdir) (rowsW c p) hr (rows_y c p hlt) hs hs' (src := srcM v1M (rowsW c p) hr)
      (q := fullShare.right) (fs := vX m c)
      (by
        unfold sendPay; rw [if_pos hlt, hq]; unfold kvPts
        exact Entails.of_eq (congrArg (fun S => (((c : Thread nD τ).loc cc0_stg2_0) ↦[S]{fullShare.right} (vX m c) : sProp 𝕄)) (srcM_set 1 _ hr)))
      (fun x y => by
        refine Eq.trans ?_ (land_y m c 1 p hlt hr x y).symm
        exact congrArg (vX m c) (src_emb _ hr x y)) xs (k := fun _ => K))
    refine sep_mono_right (sep_mono_right (sep_mono_right (sep_mono_left ?_)))
    unfold kvPts
    exact Entails.of_eq (congrArg (fun S => (((c : Thread nD τ).loc cc0_stg2_0) ↦[S]{fullShare.right} (vX m c) : sProp 𝕄)) (srcM_set 1 _ hr).symm)

/-- A landed window sent on. -/
theorem fwd_step (Kn : Dev nD × CI → ℕ) (c n : Dev nD) (t : Fin 2) (p : Fin 8) (hp : 2 ≤ p.val) (hn : n = nb p c) (r : ℕ) (hr : r + 128 ≤ 1024) (hrr : r = rowsW c (sp p))
    {s s' : DmaSem sig} (hs : SemLoc.dma s = csem (some (false, t, p))) (hs' : SemLoc.dma s' = csem (some (true, t, p))) (xs : List Item)
    {K : KProg F} {Q : PUnit → sProp 𝕄} :
    iprop(records m Kn ∗ sTok c t p ∗ dst (nb p c) t p ∗ winPts c t r (sq p) (land m c) ∗ ow c (.inr (t, p) :: xs))
      ⊢ iprop(((sRun c t p ∗ ow c xs) -∗ wpK c K Q) -∗ wpK c (fwd kM n s s' t r hr K) Q) := by
  unfold fwd
  refine BIBase.Entails.trans ?_ (send_step m Kn c n t p hn r hr (hrr.trans (rows_nb p c).symm) hs hs' (src := winM kM t r hr)
    (q := sq p) (fs := land m c)
    (by
      unfold sendPay; rw [if_neg (by omega), winM_set, ← hrr]; exact BIBase.Entails.refl)
    (fun x y => by
      rw [land_nb m p c hp]
      exact congrArg (land m c) (winM_emb t r hr x y)) xs (k := fun _ => K))
  refine sep_mono_right (sep_mono_right (sep_mono_right (sep_mono_left ?_)))
  rw [winM_set]; exact BIBase.Entails.refl

/-- The wait for chunk `p` of plane `t`, from y; -/
theorem yRecv_step (Kn : Dev nD × CI → ℕ) (c : Dev nD) (t cc : Fin 2) (p : Fin 8) (hp : p = ⟨cc.val, by omega⟩) (hr : rowsW c p + 128 ≤ 1024)
    (l : List Item) (hl : ∀ x ∈ l, ciLev (some (some (true, t, p))) < ciLev (some (itCI x))) {K : KProg F} {Q : PUnit → sProp 𝕄} :
    iprop(records m Kn ∗ levAts L lv ∗ rTok c t p ∗ ow c l)
      ⊢ iprop(((semVal (rCell c t p) 0 ∗ winPts c t (rowsW c p) fullShare (land m c) ∗ ow c l) -∗ wpK c K Q)
          -∗ wpK c (yRecv k1M v1M kM cc0_scratch4 t cc (rowsW c p) hr K) Q) := by
  have hs' : SemLoc.dma (sm2 cc0_scratch4 t cc) = csem (some (true, t, p)) := by rw [hp]; match cc with | 0 => rfl | 1 => rfl
  unfold yRecv rTok
  exact (sep_mono_right (sep_mono_right sep_assoc.1)).trans (wait_step m Kn c (true, t, p) hs' (b := winM kM t (rowsW c p) hr) rfl l hl (K := fun _ => K))

/-- from x or z; -/
theorem recv_step (Kn : Dev nD × CI → ℕ) (c : Dev nD) (t : Fin 2) (p : Fin 8) {s : DmaSem sig} (hs : SemLoc.dma s = csem (some (true, t, p))) (hr : rowsW c p + 128 ≤ 1024)
    (l : List Item) (hl : ∀ x ∈ l, ciLev (some (some (true, t, p))) < ciLev (some (itCI x))) {K : KProg F} {Q : PUnit → sProp 𝕄} :
    iprop(records m Kn ∗ levAts L lv ∗ rTok c t p ∗ ow c l)
      ⊢ iprop(((semVal (rCell c t p) 0 ∗ winPts c t (rowsW c p) fullShare (land m c) ∗ ow c l) -∗ wpK c K Q)
          -∗ wpK c (wWait kM s t (rowsW c p) hr K) Q) := by
  unfold wWait rTok
  exact (sep_mono_right (sep_mono_right sep_assoc.1)).trans (wait_step m Kn c (true, t, p) hs (b := winM kM t (rowsW c p) hr) rfl l hl (K := fun _ => K))

theorem src_credit (r : ℕ) (hr : r + 128 ≤ 1024) : (srcM k1M r hr).view.dmaCredit = N ∧ (srcM v1M r hr).view.dmaCredit = N := ⟨rfl, rfl⟩

/-- the wait for a send over y; -/
theorem ySent_step (Kn : Dev nD × CI → ℕ) (c : Dev nD) (t cc : Fin 2) (p : Fin 8) (hp : p = ⟨cc.val, by omega⟩) (hr : rowsW c p + 128 ≤ 1024)
    {K : KProg F} {Q : PUnit → sProp 𝕄} :
    iprop(records m Kn ∗ levAts L lv ∗ sRun c t p ∗ ow c [])
      ⊢ iprop(((semVal (sCell c t p) 0 ∗ kvPts c t (srcS (rowsW c p)) fullShare.right (kvX m c t) ∗ ow c []) -∗ wpK c K Q)
          -∗ wpK c (ySent k1M v1M kM cc0_scratch3 t cc (rowsW c p) hr K) Q) := by
  have hs : SemLoc.dma (sm2 cc0_scratch3 t cc) = csem (some (false, t, p)) := by rw [hp]; match cc with | 0 => rfl | 1 => rfl
  have hpay : cellPay m c (some (some (false, t, p))) 0 = kvPts c t (srcS (rowsW c p)) fullShare.right (kvX m c t) := by
    show sendPay m c t p = _
    unfold sendPay
    rw [if_pos (by rw [hp]; exact cc.isLt)]
    rw [hp]; match cc with | 0 => rfl | 1 => rfl
  have hl : ∀ x ∈ ([] : List Item), ciLev (some (some (false, t, p))) < ciLev (some (itCI x)) := fun x hx => absurd hx List.not_mem_nil
  unfold ySent sRun
  rw [← hpay]
  refine (sep_mono_right (sep_mono_right sep_assoc.1)).trans ?_
  obtain rfl | rfl : t = 0 ∨ t = 1 := by omega
  · exact wait_step m Kn c (false, 0, p) hs (b := srcM k1M (rowsW c p) hr) (src_credit _ hr).1 [] hl (K := fun _ => K)
  · exact wait_step m Kn c (false, 1, p) hs (b := srcM v1M (rowsW c p) hr) (src_credit _ hr).2 [] hl (K := fun _ => K)

/-- and for a send over x or z. -/
theorem sent_step (Kn : Dev nD × CI → ℕ) (c : Dev nD) (t : Fin 2) (p : Fin 8) (h2 : 2 ≤ p.val) {s : DmaSem sig} (hs : SemLoc.dma s = csem (some (false, t, p)))
    (r : ℕ) (hr : r + 128 ≤ 1024) (hrr : r = rowsW c (sp p)) {K : KProg F} {Q : PUnit → sProp 𝕄} :
    iprop(records m Kn ∗ levAts L lv ∗ sRun c t p ∗ ow c [])
      ⊢ iprop(((semVal (sCell c t p) 0 ∗ winPts c t r (sq p) (land m c) ∗ ow c []) -∗ wpK c K Q)
          -∗ wpK c (wWait kM s t r hr K) Q) := by
  have hpay : cellPay m c (some (some (false, t, p))) 0 = winPts c t r (sq p) (land m c) := by
    show sendPay m c t p = _
    unfold sendPay
    rw [if_neg (by omega), hrr]
  unfold wWait sRun
  rw [← hpay]
  exact (sep_mono_right (sep_mono_right sep_assoc.1)).trans (wait_step m Kn c (false, t, p) hs (b := winM kM t r hr) rfl [] (fun x hx => absurd hx List.not_mem_nil) (K := fun _ => K))

end Cert.Attn

end
-- ==== Proof.Phases.lean ====
/- The exchange in phases: both planes of a chunk at a time, and the splits and joins of the shares and of the
   element sets that a device holds. -/
module

public import proofs.«01_k».proof.Proof.Comm

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Pairs over the two planes -/

section Pairs
variable (c : Dev nD) (p : Fin 8)

/-- The right to send a chunk, both planes; -/
def Tk : sProp 𝕄 := iprop(sTok c 0 p ∗ sTok c 1 p)
/-- to await it; -/
def Rk : sProp 𝕄 := iprop(rTok c 0 p ∗ rTok c 1 p)
/-- its sends in flight; -/
def Rn : sProp 𝕄 := iprop(sRun c 0 p ∗ sRun c 1 p)
/-- its landings' counters at zero; -/
def Zr : sProp 𝕄 := iprop(semVal (rCell c 0 p) 0 ∗ semVal (rCell c 1 p) 0)
/-- its sends' counters at zero; -/
def Zs : sProp 𝕄 := iprop(semVal (sCell c 0 p) 0 ∗ semVal (sCell c 1 p) 0)
/-- its windows, landed. -/
def Wn (q : PosShare TreeShare) : sProp 𝕄 := iprop(winPts c 0 (rowsW c p) q (land m c) ∗ winPts c 1 (rowsW c p) q (land m c))
/-- The rows of the operands it sends over y. -/
def Sn : sProp 𝕄 :=
  iprop(kvPts c 0 (srcS (rowsW c p)) fullShare.right (kvX m c 0) ∗ kvPts c 1 (srcS (rowsW c p)) fullShare.right (kvX m c 1))

end Pairs

/-- The item of a send. -/
abbrev it (t : Fin 2) (p : Fin 8) : Item := .inr (t, p)

section Steps
variable (Kn : Dev nD × CI → ℕ) (c : Dev nD)

theorem ySend2 (Q : PUnit → sProp 𝕄) (n : Dev nD) (hn : n = nbd 0 c) (cc : Fin 2) (p : Fin 8) (hp : p = ⟨cc.val, by omega⟩) (xs : List Item) (K : KProg F) :
    iprop(records m Kn ∗ Tk c p ∗ dstW (nb p c) p ∗ Sn m c p ∗ ow c (it 0 p :: it 1 p :: xs))
      ⊢ iprop(((Rn c p ∗ ow c xs) -∗ wpK c K Q)
          -∗ wpK c (ySend k1M v1M kM cc0_scratch3 cc0_scratch4 n 0 cc (rowsW c p) (rowsW_le c p)
              (ySend k1M v1M kM cc0_scratch3 cc0_scratch4 n 1 cc (rowsW c p) (rowsW_le c p) K)) Q) := by
  unfold Tk dstW Sn Rn
  iintro ⟨#HR, ⟨HT0, HT1⟩, ⟨HD0, HD1⟩, ⟨HS0, HS1⟩, HO⟩; iintro Hk
  iapply (ySend_step m Kn c n hn 0 cc p hp (rowsW_le c p) (it 1 p :: xs)) $$ [HT0 HD0 HS0 HO]
  · isplitr; · iexact HR
    isplitl [HT0]; · iexact HT0
    isplitl [HD0]; · unfold dst; iexact HD0
    isplitl [HS0]; · iexact HS0
    iexact HO
  iintro ⟨Hr0, HO⟩
  iapply (ySend_step m Kn c n hn 1 cc p hp (rowsW_le c p) xs) $$ [HT1 HD1 HS1 HO]
  · isplitr; · iexact HR
    isplitl [HT1]; · iexact HT1
    isplitl [HD1]; · unfold dst; iexact HD1
    isplitl [HS1]; · iexact HS1
    iexact HO
  iintro ⟨Hr1, HO⟩
  iapply Hk
  isplitl [Hr0 Hr1]
  · isplitl [Hr0]; · iexact Hr0
    iexact Hr1
  iexact HO

omit [FloatOps F] in
theorem win_split2 (t : Fin 2) (r : ℕ) (f : S2x1024x2048.Idx → Elt F .f32) :
    winPts c t r fullShare f ⊣⊢ (iprop(winPts c t r fullShare.left f ∗ winPts c t r fullShare.right f) : sProp 𝕄) :=
  pointsTo_share (PosShare.mem_left_op_right fullShare)
omit [FloatOps F] in
theorem win_splitR (t : Fin 2) (r : ℕ) (f : S2x1024x2048.Idx → Elt F .f32) :
    winPts c t r fullShare.right f ⊣⊢ (iprop(winPts c t r fullShare.right.left f ∗ winPts c t r fullShare.right.right f) : sProp 𝕄) :=
  pointsTo_share (PosShare.mem_left_op_right fullShare.right)

/-- One plane's landing from y and its two forwards. -/
theorem yLand1 (Q : PUnit → sProp 𝕄) (nx nz : Dev nD) (hx : nx = nbd 1 c) (hz : nz = nbd 2 c) (cc t : Fin 2) (p p2 p4 : Fin 8) (hp : p = ⟨cc.val, by omega⟩)
    (hp2 : p2 = ⟨cc.val + 2, by omega⟩) (hp4 : p4 = ⟨cc.val + 4, by omega⟩) (xs : List Item)
    (hl : ∀ x ∈ it t p2 :: it t p4 :: xs, ciLev (some (some (true, t, p))) < ciLev (some (itCI x))) (K : KProg F) :
    iprop(records m Kn ∗ levAts L lv ∗ rTok c t p ∗ sTok c t p2 ∗ sTok c t p4 ∗ dst (nb p2 c) t p2 ∗ dst (nb p4 c) t p4 ∗ ow c (it t p2 :: it t p4 :: xs))
      ⊢ iprop(((semVal (rCell c t p) 0 ∗ winPts c t (rowsW c p) fullShare.left (land m c) ∗ sRun c t p2 ∗ sRun c t p4 ∗ ow c xs) -∗ wpK c K Q)
          -∗ wpK c (yLand k1M v1M kM cc0_scratch4 cc0_scratch5 cc0_scratch6 cc0_scratch7 cc0_scratch8 nx nz (rowsW c) (rowsW_le c) cc t K) Q) := by
  have h2 : 2 ≤ p2.val := by rw [hp2]; exact Nat.le_add_left _ _
  have h4 : 2 ≤ p4.val := by rw [hp4]; show 2 ≤ cc.val + 4; omega
  have n2 : nx = nb p2 c := by rw [hx, hp2]; match cc with | 0 => rfl | 1 => rfl
  have n4 : nz = nb p4 c := by rw [hz, hp4]; match cc with | 0 => rfl | 1 => rfl
  have r2 : rowsW c p = rowsW c (sp p2) := by rw [hp, hp2]; match cc with | 0 => rfl | 1 => rfl
  have r4 : rowsW c p = rowsW c (sp p4) := by rw [hp, hp4]; match cc with | 0 => rfl | 1 => rfl
  have q2 : sq p2 = fullShare.right.left := by rw [hp2]; match cc with | 0 => rfl | 1 => rfl
  have q4 : sq p4 = fullShare.right.right := by rw [hp4]; match cc with | 0 => rfl | 1 => rfl
  have s2 : SemLoc.dma (sm3 cc0_scratch5 t ⟨cc.val, by omega⟩) = csem (some (false, t, p2)) := by rw [hp2]; match cc with | 0 => rfl | 1 => rfl
  have s2' : SemLoc.dma (sm3 cc0_scratch6 t ⟨cc.val, by omega⟩) = csem (some (true, t, p2)) := by rw [hp2]; match cc with | 0 => rfl | 1 => rfl
  have s4 : SemLoc.dma (sm3 cc0_scratch7 t ⟨cc.val, by omega⟩) = csem (some (false, t, p4)) := by rw [hp4]; match cc with | 0 => rfl | 1 => rfl
  have s4' : SemLoc.dma (sm3 cc0_scratch8 t ⟨cc.val, by omega⟩) = csem (some (true, t, p4)) := by rw [hp4]; match cc with | 0 => rfl | 1 => rfl
  unfold yLand
  subst hp
  iintro ⟨#HR, #HL, Hr, HT2, HT4, HD2, HD4, HO⟩; iintro Hk
  iapply (yRecv_step m Kn c t cc _ rfl (rowsW_le c _) _ hl) $$ [Hr HO]
  · isplitr; · iexact HR
    isplitr; · iexact HL
    isplitl [Hr]; · iexact Hr
    iexact HO
  iintro ⟨Hz, Hw, HO⟩
  ihave Hw := (win_split2 (F := F) c t _ (land m c)).1 $$ Hw
  icases Hw with ⟨Hw, Hw'⟩
  ihave Hw' := (win_splitR (F := F) c t _ (land m c)).1 $$ Hw'
  icases Hw' with ⟨Hw2, Hw4⟩
  iapply (fwd_step m Kn c nx t p2 h2 n2 _ (rowsW_le c _) r2 s2 s2' (it t p4 :: xs)) $$ [HT2 HD2 Hw2 HO]
  · isplitr; · iexact HR
    isplitl [HT2]; · iexact HT2
    isplitl [HD2]; · iexact HD2
    isplitl [Hw2]; · rw [q2]; iexact Hw2
    iexact HO
  iintro ⟨H2, HO⟩
  iapply (fwd_step m Kn c nz t p4 h4 n4 _ (rowsW_le c _) r4 s4 s4' xs) $$ [HT4 HD4 Hw4 HO]
  · isplitr; · iexact HR
    isplitl [HT4]; · iexact HT4
    isplitl [HD4]; · iexact HD4
    isplitl [Hw4]; · rw [q4]; iexact Hw4
    iexact HO
  iintro ⟨H4, HO⟩
  iapply Hk
  isplitl [Hz]; · iexact Hz
  isplitl [Hw]; · iexact Hw
  isplitl [H2]; · iexact H2
  isplitl [H4]; · iexact H4
  iexact HO

theorem yLand2 (Q : PUnit → sProp 𝕄) (nx nz : Dev nD) (hx : nx = nbd 1 c) (hz : nz = nbd 2 c) (cc : Fin 2) (p p2 p4 : Fin 8) (hp : p = ⟨cc.val, by omega⟩)
    (hp2 : p2 = ⟨cc.val + 2, by omega⟩) (hp4 : p4 = ⟨cc.val + 4, by omega⟩) (xs : List Item)
    (hl : ∀ t, ∀ x ∈ it 0 p2 :: it 0 p4 :: it 1 p2 :: it 1 p4 :: xs, ciLev (some (some (true, t, p))) < ciLev (some (itCI x))) (K : KProg F) :
    iprop(records m Kn ∗ levAts L lv ∗ Rk c p ∗ Tk c p2 ∗ Tk c p4 ∗ dstW (nb p2 c) p2 ∗ dstW (nb p4 c) p4 ∗ ow c (it 0 p2 :: it 0 p4 :: it 1 p2 :: it 1 p4 :: xs))
      ⊢ iprop(((Zr c p ∗ Wn m c p fullShare.left ∗ Rn c p2 ∗ Rn c p4 ∗ ow c xs) -∗ wpK c K Q)
          -∗ wpK c (yLand k1M v1M kM cc0_scratch4 cc0_scratch5 cc0_scratch6 cc0_scratch7 cc0_scratch8 nx nz (rowsW c) (rowsW_le c) cc 0
              (yLand k1M v1M kM cc0_scratch4 cc0_scratch5 cc0_scratch6 cc0_scratch7 cc0_scratch8 nx nz (rowsW c) (rowsW_le c) cc 1 K)) Q) := by
  unfold Rk Tk dstW Zr Wn Rn
  iintro ⟨#HR, #HL, ⟨Hr0, Hr1⟩, ⟨HA0, HA1⟩, ⟨HB0, HB1⟩, ⟨HD0, HD1⟩, ⟨HE0, HE1⟩, HO⟩; iintro Hk
  iapply (yLand1 m Kn c Q nx nz hx hz cc 0 p p2 p4 hp hp2 hp4 (it 1 p2 :: it 1 p4 :: xs) (hl 0)) $$ [Hr0 HA0 HB0 HD0 HE0 HO]
  · isplitr; · iexact HR
    isplitr; · iexact HL
    isplitl [Hr0]; · iexact Hr0
    isplitl [HA0]; · iexact HA0
    isplitl [HB0]; · iexact HB0
    isplitl [HD0]; · unfold dst; iexact HD0
    isplitl [HE0]; · unfold dst; iexact HE0
    iexact HO
  iintro ⟨Hz0, Hw0, H20, H40, HO⟩
  iapply (yLand1 m Kn c Q nx nz hx hz cc 1 p p2 p4 hp hp2 hp4 xs (fun x h => hl 1 x (List.mem_cons_of_mem _ (List.mem_cons_of_mem _ h)))) $$ [Hr1 HA1 HB1 HD1 HE1 HO]
  · isplitr; · iexact HR
    isplitr; · iexact HL
    isplitl [Hr1]; · iexact Hr1
    isplitl [HA1]; · iexact HA1
    isplitl [HB1]; · iexact HB1
    isplitl [HD1]; · unfold dst; iexact HD1
    isplitl [HE1]; · unfold dst; iexact HE1
    iexact HO
  iintro ⟨Hz1, Hw1, H21, H41, HO⟩
  iapply Hk
  isplitl [Hz0 Hz1]
  · isplitl [Hz0]; · iexact Hz0
    iexact Hz1
  isplitl [Hw0 Hw1]
  · isplitl [Hw0]; · iexact Hw0
    iexact Hw1
  isplitl [H20 H21]
  · isplitl [H20]; · iexact H20
    iexact H21
  isplitl [H40 H41]
  · isplitl [H40]; · iexact H40
    iexact H41
  iexact HO

/-- Both planes' landings from x or z. -/
theorem recv2 (Q : PUnit → sProp 𝕄) (p : Fin 8) {s₀ s₁ : DmaSem sig} (h₀ : SemLoc.dma s₀ = csem (some (true, 0, p))) (h₁ : SemLoc.dma s₁ = csem (some (true, 1, p)))
    (xs : List Item) (hl : ∀ t, ∀ x ∈ xs, ciLev (some (some (true, t, p))) < ciLev (some (itCI x))) (K : KProg F) :
    iprop(records m Kn ∗ levAts L lv ∗ Rk c p ∗ ow c xs)
      ⊢ iprop(((Zr c p ∗ Wn m c p fullShare ∗ ow c xs) -∗ wpK c K Q)
          -∗ wpK c (wWait kM s₀ 0 (rowsW c p) (rowsW_le c p) (wWait kM s₁ 1 (rowsW c p) (rowsW_le c p) K)) Q) := by
  unfold Rk Zr Wn
  iintro ⟨#HR, #HL, ⟨Hr0, Hr1⟩, HO⟩; iintro Hk
  iapply (recv_step m Kn c 0 p h₀ (rowsW_le c p) xs (hl 0)) $$ [Hr0 HO]
  · isplitr; · iexact HR
    isplitr; · iexact HL
    isplitl [Hr0]; · iexact Hr0
    iexact HO
  iintro ⟨Hz0, Hw0, HO⟩
  iapply (recv_step m Kn c 1 p h₁ (rowsW_le c p) xs (hl 1)) $$ [Hr1 HO]
  · isplitr; · iexact HR
    isplitr; · iexact HL
    isplitl [Hr1]; · iexact Hr1
    iexact HO
  iintro ⟨Hz1, Hw1, HO⟩
  iapply Hk
  isplitl [Hz0 Hz1]
  · isplitl [Hz0]; · iexact Hz0
    iexact Hz1
  isplitl [Hw0 Hw1]
  · isplitl [Hw0]; · iexact Hw0
    iexact Hw1
  iexact HO

/-- One plane's landing from x or z, sent on. -/
theorem recvFwd1 (Q : PUnit → sProp 𝕄) (t : Fin 2) (p p' : Fin 8) (n : Dev nD) (hn : n = nb p' c) (h2 : 2 ≤ p'.val) (hs : sp p' = p) (hq : sq p' = fullShare.right) {s a a' : DmaSem sig}
    (h : SemLoc.dma s = csem (some (true, t, p))) (ha : SemLoc.dma a = csem (some (false, t, p'))) (ha' : SemLoc.dma a' = csem (some (true, t, p')))
    (xs : List Item) (hl : ∀ x ∈ it t p' :: xs, ciLev (some (some (true, t, p))) < ciLev (some (itCI x))) (K : KProg F) :
    iprop(records m Kn ∗ levAts L lv ∗ rTok c t p ∗ sTok c t p' ∗ dst (nb p' c) t p' ∗ ow c (it t p' :: xs))
      ⊢ iprop(((semVal (rCell c t p) 0 ∗ winPts c t (rowsW c p) fullShare.left (land m c) ∗ sRun c t p' ∗ ow c xs) -∗ wpK c K Q)
          -∗ wpK c (wWait kM s t (rowsW c p) (rowsW_le c p) (fwd kM n a a' t (rowsW c p) (rowsW_le c p) K)) Q) := by
  iintro ⟨#HR, #HL, Hr, HT, HD, HO⟩; iintro Hk
  iapply (recv_step m Kn c t p h (rowsW_le c p) _ hl) $$ [Hr HO]
  · isplitr; · iexact HR
    isplitr; · iexact HL
    isplitl [Hr]; · iexact Hr
    iexact HO
  iintro ⟨Hz, Hw, HO⟩
  ihave Hw := (win_split2 (F := F) c t _ (land m c)).1 $$ Hw
  icases Hw with ⟨Hw, Hw'⟩
  iapply (fwd_step m Kn c n t p' h2 hn _ (rowsW_le c _) (congrArg (rowsW c) hs.symm) ha ha' xs) $$ [HT HD Hw' HO]
  · isplitr; · iexact HR
    isplitl [HT]; · iexact HT
    isplitl [HD]; · iexact HD
    isplitl [Hw']; · rw [hq]; iexact Hw'
    iexact HO
  iintro ⟨H2, HO⟩
  iapply Hk
  isplitl [Hz]; · iexact Hz
  isplitl [Hw]; · iexact Hw
  isplitl [H2]; · iexact H2
  iexact HO

theorem recvFwd2 (Q : PUnit → sProp 𝕄) (p p' : Fin 8) (n : Dev nD) (hn : n = nb p' c) (h2 : 2 ≤ p'.val) (hs : sp p' = p) (hq : sq p' = fullShare.right) {s₀ a₀ a₀' s₁ a₁ a₁' : DmaSem sig}
    (h₀ : SemLoc.dma s₀ = csem (some (true, 0, p))) (ha₀ : SemLoc.dma a₀ = csem (some (false, 0, p'))) (ha₀' : SemLoc.dma a₀' = csem (some (true, 0, p')))
    (h₁ : SemLoc.dma s₁ = csem (some (true, 1, p))) (ha₁ : SemLoc.dma a₁ = csem (some (false, 1, p'))) (ha₁' : SemLoc.dma a₁' = csem (some (true, 1, p')))
    (xs : List Item) (hl : ∀ t, ∀ x ∈ it 0 p' :: it 1 p' :: xs, ciLev (some (some (true, t, p))) < ciLev (some (itCI x))) (K : KProg F) :
    iprop(records m Kn ∗ levAts L lv ∗ Rk c p ∗ Tk c p' ∗ dstW (nb p' c) p' ∗ ow c (it 0 p' :: it 1 p' :: xs))
      ⊢ iprop(((Zr c p ∗ Wn m c p fullShare.left ∗ Rn c p' ∗ ow c xs) -∗ wpK c K Q)
          -∗ wpK c (wWait kM s₀ 0 (rowsW c p) (rowsW_le c p) (fwd kM n a₀ a₀' 0 (rowsW c p) (rowsW_le c p)
              (wWait kM s₁ 1 (rowsW c p) (rowsW_le c p) (fwd kM n a₁ a₁' 1 (rowsW c p) (rowsW_le c p) K)))) Q) := by
  unfold Rk Tk dstW Zr Wn Rn
  iintro ⟨#HR, #HL, ⟨Hr0, Hr1⟩, ⟨HA0, HA1⟩, ⟨HD0, HD1⟩, HO⟩; iintro Hk
  iapply (recvFwd1 m Kn c Q 0 p p' n hn h2 hs hq h₀ ha₀ ha₀' (it 1 p' :: xs) (hl 0)) $$ [Hr0 HA0 HD0 HO]
  · isplitr; · iexact HR
    isplitr; · iexact HL
    isplitl [Hr0]; · iexact Hr0
    isplitl [HA0]; · iexact HA0
    isplitl [HD0]; · unfold dst; iexact HD0
    iexact HO
  iintro ⟨Hz0, Hw0, H20, HO⟩
  iapply (recvFwd1 m Kn c Q 1 p p' n hn h2 hs hq h₁ ha₁ ha₁' xs (fun x h => hl 1 x (List.mem_cons_of_mem _ h))) $$ [Hr1 HA1 HD1 HO]
  · isplitr; · iexact HR
    isplitr; · iexact HL
    isplitl [Hr1]; · iexact Hr1
    isplitl [HA1]; · iexact HA1
    isplitl [HD1]; · unfold dst; iexact HD1
    iexact HO
  iintro ⟨Hz1, Hw1, H21, HO⟩
  iapply Hk
  isplitl [Hz0 Hz1]
  · isplitl [Hz0]; · iexact Hz0
    iexact Hz1
  isplitl [Hw0 Hw1]
  · isplitl [Hw0]; · iexact Hw0
    iexact Hw1
  isplitl [H20 H21]
  · isplitl [H20]; · iexact H20
    iexact H21
  iexact HO

/-- Both planes' sends over y completed. -/
theorem ySent2 (Q : PUnit → sProp 𝕄) (cc : Fin 2) (p : Fin 8) (hp : p = ⟨cc.val, by omega⟩) (K : KProg F) :
    iprop(records m Kn ∗ levAts L lv ∗ Rn c p ∗ ow c [])
      ⊢ iprop(((Zs c p ∗ Sn m c p ∗ ow c []) -∗ wpK c K Q)
          -∗ wpK c (ySent k1M v1M kM cc0_scratch3 0 cc (rowsW c p) (rowsW_le c p) (ySent k1M v1M kM cc0_scratch3 1 cc (rowsW c p) (rowsW_le c p) K)) Q) := by
  unfold Rn Zs Sn
  iintro ⟨#HR, #HL, ⟨H0, H1⟩, HO⟩; iintro Hk
  iapply (ySent_step m Kn c 0 cc p hp (rowsW_le c p)) $$ [H0 HO]
  · isplitr; · iexact HR
    isplitr; · iexact HL
    isplitl [H0]; · iexact H0
    iexact HO
  iintro ⟨Hz0, Hw0, HO⟩
  iapply (ySent_step m Kn c 1 cc p hp (rowsW_le c p)) $$ [H1 HO]
  · isplitr; · iexact HR
    isplitr; · iexact HL
    isplitl [H1]; · iexact H1
    iexact HO
  iintro ⟨Hz1, Hw1, HO⟩
  iapply Hk
  isplitl [Hz0 Hz1]
  · isplitl [Hz0]; · iexact Hz0
    iexact Hz1
  isplitl [Hw0 Hw1]
  · isplitl [Hw0]; · iexact Hw0
    iexact Hw1
  iexact HO

/-- Both planes' sends over x or z completed: of chunk `p`, from its source chunk's windows. -/
theorem sent2 (Q : PUnit → sProp 𝕄) (p p' : Fin 8) (q : PosShare TreeShare) (h2 : 2 ≤ p'.val) (hs : sp p' = p) (hq : sq p' = q) {s₀ s₁ : DmaSem sig}
    (h₀ : SemLoc.dma s₀ = csem (some (false, 0, p'))) (h₁ : SemLoc.dma s₁ = csem (some (false, 1, p'))) (K : KProg F) :
    iprop(records m Kn ∗ levAts L lv ∗ Rn c p' ∗ ow c [])
      ⊢ iprop(((Zs c p' ∗ Wn m c p q ∗ ow c []) -∗ wpK c K Q)
          -∗ wpK c (wWait kM s₀ 0 (rowsW c p) (rowsW_le c p) (wWait kM s₁ 1 (rowsW c p) (rowsW_le c p) K)) Q) := by
  subst hq
  unfold Rn Zs Wn
  iintro ⟨#HR, #HL, ⟨H0, H1⟩, HO⟩; iintro Hk
  iapply (sent_step m Kn c 0 p' h2 h₀ _ (rowsW_le c p) (congrArg (rowsW c) hs.symm)) $$ [H0 HO]
  · isplitr; · iexact HR
    isplitr; · iexact HL
    isplitl [H0]; · iexact H0
    iexact HO
  iintro ⟨Hz0, Hw0, HO⟩
  iapply (sent_step m Kn c 1 p' h2 h₁ _ (rowsW_le c p) (congrArg (rowsW c) hs.symm)) $$ [H1 HO]
  · isplitr; · iexact HR
    isplitr; · iexact HL
    isplitl [H1]; · iexact H1
    iexact HO
  iintro ⟨Hz1, Hw1, HO⟩
  iapply Hk
  isplitl [Hz0 Hz1]
  · isplitl [Hz0]; · iexact Hz0
    iexact Hz1
  isplitl [Hw0 Hw1]
  · isplitl [Hw0]; · iexact Hw0
    iexact Hw1
  iexact HO

/-- Both planes' sends of a chunk's two copies over x and over z completed. -/
theorem sent4 (Q : PUnit → sProp 𝕄) (p p2 p4 : Fin 8) (h2 : 2 ≤ p2.val) (h4 : 2 ≤ p4.val) (hs2 : sp p2 = p) (hs4 : sp p4 = p)
    (hq2 : sq p2 = fullShare.right.left) (hq4 : sq p4 = fullShare.right.right) {s₀ s₁ z₀ z₁ : DmaSem sig}
    (h₀ : SemLoc.dma s₀ = csem (some (false, 0, p2))) (h₁ : SemLoc.dma s₁ = csem (some (false, 1, p2)))
    (k₀ : SemLoc.dma z₀ = csem (some (false, 0, p4))) (k₁ : SemLoc.dma z₁ = csem (some (false, 1, p4))) (K : KProg F) :
    iprop(records m Kn ∗ levAts L lv ∗ Rn c p2 ∗ Rn c p4 ∗ ow c [])
      ⊢ iprop(((Zs c p2 ∗ Zs c p4 ∗ Wn m c p fullShare.right ∗ ow c []) -∗ wpK c K Q)
          -∗ wpK c (wWait kM s₀ 0 (rowsW c p) (rowsW_le c p) (wWait kM z₀ 0 (rowsW c p) (rowsW_le c p)
              (wWait kM s₁ 1 (rowsW c p) (rowsW_le c p) (wWait kM z₁ 1 (rowsW c p) (rowsW_le c p) K)))) Q) := by
  unfold Rn Zs Wn
  iintro ⟨#HR, #HL, ⟨H0, H1⟩, ⟨H2, H3⟩, HO⟩; iintro Hk
  iapply (sent_step m Kn c 0 p2 h2 h₀ _ (rowsW_le c p) (congrArg (rowsW c) hs2.symm)) $$ [H0 HO]
  · isplitr; · iexact HR
    isplitr; · iexact HL
    isplitl [H0]; · iexact H0
    iexact HO
  iintro ⟨Hz0, Hw0, HO⟩
  iapply (sent_step m Kn c 0 p4 h4 k₀ _ (rowsW_le c p) (congrArg (rowsW c) hs4.symm)) $$ [H2 HO]
  · isplitr; · iexact HR
    isplitr; · iexact HL
    isplitl [H2]; · iexact H2
    iexact HO
  iintro ⟨Hz2, Hw2, HO⟩
  iapply (sent_step m Kn c 1 p2 h2 h₁ _ (rowsW_le c p) (congrArg (rowsW c) hs2.symm)) $$ [H1 HO]
  · isplitr; · iexact HR
    isplitr; · iexact HL
    isplitl [H1]; · iexact H1
    iexact HO
  iintro ⟨Hz1, Hw1, HO⟩
  iapply (sent_step m Kn c 1 p4 h4 k₁ _ (rowsW_le c p) (congrArg (rowsW c) hs4.symm)) $$ [H3 HO]
  · isplitr; · iexact HR
    isplitr; · iexact HL
    isplitl [H3]; · iexact H3
    iexact HO
  iintro ⟨Hz3, Hw3, HO⟩
  rw [hq2, hq4]
  iapply Hk
  isplitl [Hz0 Hz1]
  · isplitl [Hz0]; · iexact Hz0
    iexact Hz1
  isplitl [Hz2 Hz3]
  · isplitl [Hz2]; · iexact Hz2
    iexact Hz3
  isplitl [Hw0 Hw1 Hw2 Hw3]
  · isplitl [Hw0 Hw2]
    · iapply (win_splitR (F := F) c 0 _ (land m c)).2
      isplitl [Hw0]; · iexact Hw0
      iexact Hw2
    · iapply (win_splitR (F := F) c 1 _ (land m c)).2
      isplitl [Hw1]; · iexact Hw1
      iexact Hw3
  iexact HO

end Steps

/-- A chunk's windows' halves join. -/
theorem Wn_join (c : Dev nD) (p : Fin 8) : iprop(Wn m c p fullShare.left ∗ Wn m c p fullShare.right) ⊢ Wn m c p fullShare := by
  unfold Wn
  iintro ⟨⟨H0, H1⟩, ⟨H2, H3⟩⟩
  isplitl [H0 H2]
  · iapply (win_split2 (F := F) c 0 _ (land m c)).2
    isplitl [H0]; · iexact H0
    iexact H2
  · iapply (win_split2 (F := F) c 1 _ (land m c)).2
    isplitl [H1]; · iexact H1
    iexact H3

/-! ## Conjunctions over the chunks -/

omit [FloatOps F] in
theorem sep_fin8 (Ψ : Fin 8 → sProp 𝕄) : bigSep Finset.univ Ψ = iprop(Ψ 0 ∗ Ψ 1 ∗ Ψ 2 ∗ Ψ 3 ∗ Ψ 4 ∗ Ψ 5 ∗ Ψ 6 ∗ Ψ 7) :=
  bigSep_univ_eq_bigSepL [0, 1, 2, 3, 4, 5, 6, 7] (by decide) (by decide) Ψ

omit [FloatOps F] in
theorem sep_planes (Ψ : Fin 2 → Fin 8 → sProp 𝕄) :
    bigSep Finset.univ (fun x : Fin 2 × Fin 8 => Ψ x.1 x.2) = bigSep Finset.univ fun p : Fin 8 => iprop(Ψ 0 p ∗ Ψ 1 p) := by
  rw [bigSep_univ_prod, bigSep_univ_eq_bigSepL [0, 1] (by decide) (by decide), bigSepL_cons_cons, bigSepL_singleton]
  exact (bigSep_sep' Finset.univ (fun p : Fin 8 => Ψ 0 p) (fun p => Ψ 1 p)).symm

omit [FloatOps F] in
theorem sep_cells (Ψ : XI → sProp 𝕄) :
    bigSep Finset.univ Ψ = iprop((bigSep Finset.univ fun p : Fin 8 => iprop(Ψ (false, 0, p) ∗ Ψ (false, 1, p)))
      ∗ bigSep Finset.univ fun p : Fin 8 => iprop(Ψ (true, 0, p) ∗ Ψ (true, 1, p))) := by
  rw [bigSep_univ_prod, bigSep_univ_eq_bigSepL [false, true] (by decide) (by decide), bigSepL_cons_cons, bigSepL_singleton]
  rw [sep_planes (fun t p => Ψ (false, t, p)), sep_planes (fun t p => Ψ (true, t, p))]
  rfl

/-! ## The landing buffer and the operands, cut -/

theorem winS_disjoint (c : Dev nD) : ∀ x ∈ (Finset.univ : Finset (Fin 2 × Fin 8)), ∀ y ∈ (Finset.univ : Finset (Fin 2 × Fin 8)), x ≠ y →
    Disjoint (winS x.1 (rowsW c x.2)) (winS y.1 (rowsW c y.2)) := by
  rintro ⟨t, p⟩ - ⟨t', p'⟩ - hne
  refine Finset.disjoint_left.mpr fun i hi hi' => hne ?_
  obtain ⟨a0, a1, a2⟩ := mem_winS.mp hi
  obtain ⟨b0, b1, b2⟩ := mem_winS.mp hi'
  have ht : t = t' := Fin.ext (a0.symm.trans b0)
  have h1 := rowsW_blk c p
  have h2 := rowsW_blk c p'
  have hp : p = p' := blkOf_inj c p p' (Fin.ext (by dsimp only at a1 a2 b1 b2; omega))
  rw [ht, hp]

theorem winS_cover (c : Dev nD) : (Finset.univ : Finset (Fin 2 × Fin 8)).biUnion (fun x => winS x.1 (rowsW c x.2)) = (Finset.univ : Finset S2x1024x2048.Idx) := by
  refine Finset.eq_univ_of_forall fun i => ?_
  have h0 : (i 0).val < 2 := (i 0).isLt
  have h1 : (i 1).val < 1024 := (i 1).isLt
  obtain ⟨p, hp⟩ := blkOf_surj c ⟨(i 1).val / 128, by omega⟩
  refine Finset.mem_biUnion.mpr ⟨(⟨(i 0).val, h0⟩, p), Finset.mem_univ _, mem_winS.mpr ?_⟩
  have h2 := rowsW_blk c p
  have h3 : (blkOf c p).val = (i 1).val / 128 := congrArg Fin.val hp
  refine ⟨rfl, ?_, ?_⟩ <;> dsimp only <;> omega

omit [FloatOps F] in
/-- The whole landing buffer is its sixteen windows. -/
theorem land_windows (c : Dev nD) (f : S2x1024x2048.Idx → Elt F .f32) :
    (((c : Thread nD τ).loc cc0_scratch0) ↦{fullShare} f : sProp 𝕄)
      = bigSep Finset.univ fun p : Fin 8 => iprop(winPts c 0 (rowsW c p) fullShare f ∗ winPts c 1 (rowsW c p) fullShare f) := by
  rw [← sep_planes (fun t p => winPts c t (rowsW c p) fullShare f)]
  have h := pointsTo_biUnion (ℓ := ((c : Thread nD τ).loc cc0_scratch0)) (q := fullShare) (f := f) (Ix := Unit) (Name := ℕ) (U := UU) (Lvl := ℕ)
    (Finset.univ : Finset (Fin 2 × Fin 8)) (fun x => winS x.1 (rowsW c x.2)) (winS_disjoint c)
  refine Eq.trans (congrArg (fun S => (((c : Thread nD τ).loc cc0_scratch0) ↦[S]{fullShare} f : sProp 𝕄)) (winS_cover c).symm) h

/-- The rows of an operand sent by nobody. -/
def restS (c : Dev nD) : Finset S1024x2048.Idx := (Finset.univ \ srcS (rowsW c 0)) \ srcS (rowsW c 1)

theorem src_sub (c : Dev nD) : srcS (rowsW c 1) ⊆ Finset.univ \ srcS (rowsW c 0) := by
  intro i hi
  refine Finset.mem_sdiff.mpr ⟨Finset.mem_univ _, fun hi' => ?_⟩
  obtain ⟨a1, a2⟩ := mem_srcS.mp hi
  obtain ⟨b1, b2⟩ := mem_srcS.mp hi'
  have h1 := rowsW_blk c 0
  have h2 := rowsW_blk c 1
  exact absurd (blkOf_inj c 0 1 (Fin.ext (by omega))) (by decide)

omit [FloatOps F] in
/-- An operand: half of it kept, of the other half the rows to send apart. -/
theorem kv_split (c : Dev nD) (t : Fin 2) (f : S1024x2048.Idx → Elt F .f32) :
    kvPts c t Finset.univ fullShare f ⊣⊢ (iprop(kvPts c t Finset.univ fullShare.left f ∗ kvPts c t (srcS (rowsW c 0)) fullShare.right f
      ∗ kvPts c t (srcS (rowsW c 1)) fullShare.right f ∗ kvPts c t (restS c) fullShare.right f) : sProp 𝕄) := by
  have key (ℓ : Loc nD τ sig) (g : Buf (Elt F) ℓ) (S₀ S₁ : Finset (Idx ℓ)) (h : S₁ ⊆ Finset.univ \ S₀) :
      (ℓ ↦[Finset.univ]{fullShare} g) ⊣⊢ (iprop((ℓ ↦[Finset.univ]{fullShare.left} g) ∗ (ℓ ↦[S₀]{fullShare.right} g)
        ∗ (ℓ ↦[S₁]{fullShare.right} g) ∗ (ℓ ↦[(Finset.univ \ S₀) \ S₁]{fullShare.right} g)) : sProp 𝕄) := by
    have e1 := pointsTo_share (Ix := Unit) (Name := ℕ) (U := UU) (Lvl := ℕ) (ℓ := ℓ) (I := Finset.univ) (f := g) (PosShare.mem_left_op_right fullShare)
    have e2 := pointsTo_split_subset (Ix := Unit) (Name := ℕ) (U := UU) (Lvl := ℕ) (ℓ := ℓ) (q := fullShare.right) (f := g) (Finset.subset_univ S₀)
    have e3 := pointsTo_split_subset (Ix := Unit) (Name := ℕ) (U := UU) (Lvl := ℕ) (ℓ := ℓ) (q := fullShare.right) (f := g) h
    constructor
    · exact e1.1.trans (sep_mono_right (e2.1.trans (sep_mono_right e3.1)))
    · exact (sep_mono_right ((sep_mono_right e3.2).trans e2.2)).trans e1.2
  match t with
  | 0 => exact key ((c : Thread nD τ).loc cc0_stg1_0) f _ _ (src_sub c)
  | 1 => exact key ((c : Thread nD τ).loc cc0_stg2_0) f _ _ (src_sub c)

end Cert.Attn

end
-- ==== Proof.Steps.lean ====
/- The compute segments' steps: what a head's local pass, a landed chunk and the last division do to the
   accumulators a device holds. -/
module

public import proofs.«01_k».proof.Proof.Comm

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ)

/-! ## Parts of an array -/

/-- The columns of one head. -/
def hd {e : EltTy} (f : S1024x2048.Idx → Elt F e) (h : Fin 16) : S1024x128.Idx → Elt F e :=
  fun x => f ((Rect.unit (s := S1024x2048) ![0, 128 * h.val] S1024x128.size (inb_hd h)).emb x)
/-- The column of one head's row sums. -/
def lc {e : EltTy} (f : S1024x128.Idx → Elt F e) (h : Fin 16) : S1024x1.Idx → Elt F e :=
  fun x => f ((Rect.unit (s := S1024x128) ![0, h.val] S1024x1.size (inb_l h)).emb x)
/-- 256 rows of one head. -/
def qb {e : EltTy} (f : S1024x2048.Idx → Elt F e) (i : Fin 4) (h : Fin 16) : S256x128.Idx → Elt F e :=
  fun x => f ((Rect.unit (s := S1024x2048) ![256 * i.val, 128 * h.val] S256x128.size (inb_qb i h)).emb x)
/-- A landed chunk's keys or values of one head. -/
def kvW (f : S2x1024x2048.Idx → Elt F .f32) (t : Fin 2) (r : ℕ) (hr : r + 128 ≤ 1024) (h : Fin 16) : S1x128x128.Idx → Elt F .f32 :=
  fun x => f ((Rect.unit (s := S2x1024x2048) ![t.val, r, 128 * h.val] S1x128x128.size (inb_kv h t.isLt hr)).emb x)

/-! ## Stores into a whole buffer -/

theorem wr_in (b : Ref sig .tc) (r : Rect b.ty.shape) (f : b.ty.Contents (Elt F)) (w : r.shape.Idx → Elt F b.ty.elt) (x : r.shape.Idx) :
    ((Memref.whole b).access r).write (Elt F) f w Finset.univ (r.emb x) = w x :=
  View.write_emb_of_mem (v := (Memref.whole b).access r) f w (Finset.mem_univ x)

theorem wr_out (b : Ref sig .tc) (r : Rect b.ty.shape) (f : b.ty.Contents (Elt F)) (w : r.shape.Idx → Elt F b.ty.elt) {i : b.ty.shape.Idx} (h : i ∉ r.set) :
    ((Memref.whole b).access r).write (Elt F) f w Finset.univ i = f i :=
  View.write_of_not_mem (v := (Memref.whole b).access r) f w Finset.univ (fun hi => h (by
    have e : ((Memref.whole b).access r).set = r.set := View.set_slice_whole b r
    rw [← e]; exact hi))

theorem hd_write (f : S1024x2048.Idx → Elt F .f32) (h h' : Fin 16) (w : S1024x128.Idx → Elt F .f32) :
    hd (F := F) (e := .f32) ((oM.access (Rect.unit (s := S1024x2048) ![0, 128 * h.val] S1024x128.size (inb_hd h))).write (Elt F) f w Finset.univ) h'
      = if h' = h then w else hd f h' := by
  by_cases e : h' = h
  · subst e; rw [if_pos rfl]; funext x; unfold hd; exact wr_in cc0_stg3_0 (Rect.unit (s := S1024x2048) ![0, 128 * h'.val] S1024x128.size (inb_hd h')) f w x
  · rw [if_neg e]; funext x
    unfold hd; refine wr_out cc0_stg3_0 (Rect.unit (s := S1024x2048) ![0, 128 * h.val] S1024x128.size (inb_hd h)) f w fun hx => ?_
    have h1 := (Rect.mem_set_unit.mp hx) 1
    have hx1 : (x 1 : ℕ) < 128 := (x 1).isLt
    have h2 : 128 * h.val ≤ 128 * h'.val + 1 * (x 1 : ℕ) ∧ 128 * h'.val + 1 * (x 1 : ℕ) < 128 * h.val + 128 := h1
    exact e (Fin.ext (by omega))

theorem lc_write (f : S1024x128.Idx → Elt F .f32) (h h' : Fin 16) (w : S1024x1.Idx → Elt F .f32) :
    lc (F := F) (e := .f32) ((lM.access (Rect.unit (s := S1024x128) ![0, h.val] S1024x1.size (inb_l h))).write (Elt F) f w Finset.univ) h'
      = if h' = h then w else lc f h' := by
  by_cases e : h' = h
  · subst e; rw [if_pos rfl]; funext x; unfold lc; exact wr_in cc0_scratch1 (Rect.unit (s := S1024x128) ![0, h'.val] S1024x1.size (inb_l h')) f w x
  · rw [if_neg e]; funext x
    unfold lc; refine wr_out cc0_scratch1 (Rect.unit (s := S1024x128) ![0, h.val] S1024x1.size (inb_l h)) f w fun hx => ?_
    have h1 := (Rect.mem_set_unit.mp hx) 1
    have hx1 : (x 1 : ℕ) < 1 := (x 1).isLt
    have h2 : h.val ≤ h'.val + 1 * (x 1 : ℕ) ∧ h'.val + 1 * (x 1 : ℕ) < h.val + 1 := h1
    exact e (Fin.ext (by omega))

/-! ## The accumulators' states -/

section States
variable (c : Dev nD)

/-- The output buffer, its heads satisfying `P`. -/
def oAt (P : (Fin 16 → S1024x128.Idx → Elt F .f32) → Prop) : sProp 𝕄 :=
  iprop(∃ f : S1024x2048.Idx → Elt F .f32, ⌜P (hd f)⌝ ∗ (((c : Thread nD τ).loc cc0_stg3_0) ↦{fullShare} f))
/-- The row sums' buffer, its heads satisfying `P`. -/
def lAt (P : (Fin 16 → S1024x1.Idx → Elt F .f32) → Prop) : sProp 𝕄 :=
  iprop(∃ f : S1024x128.Idx → Elt F .f32, ⌜P (lc f)⌝ ∗ (((c : Thread nD τ).loc cc0_scratch1) ↦{fullShare} f))
/-- The scaled queries' buffer. -/
def qsPts (f : S1024x2048.Idx → Elt F .bf16) : sProp 𝕄 := iprop(((c : Thread nD τ).loc cc0_scratch2) ↦{fullShare} f)

omit [FloatOps F] in
theorem oAt_mono {P P' : (Fin 16 → S1024x128.Idx → Elt F .f32) → Prop} (h : ∀ f, P f → P' f) : oAt (F := F) c P ⊢ oAt c P' := by
  unfold oAt
  iintro ⟨%f, %hf, H⟩
  iexists f; isplitr
  · ipureintro; exact h _ hf
  iexact H
omit [FloatOps F] in
theorem lAt_mono {P P' : (Fin 16 → S1024x1.Idx → Elt F .f32) → Prop} (h : ∀ f, P f → P' f) : lAt (F := F) c P ⊢ lAt c P' := by
  unfold lAt
  iintro ⟨%f, %hf, H⟩
  iexists f; isplitr
  · ipureintro; exact h _ hf
  iexact H

end States

/-- Iterating a step. -/
theorem upTo_step {M : ℕ} (f : Fin M → KProg F → KProg F) (c : Dev nD) (Q : PUnit → sProp 𝕄) (Inv : ℕ → sProp 𝕄)
    (hf : ∀ (h : Fin M) (K : KProg F), Inv h.val ⊢ iprop((Inv (h.val + 1) -∗ wpK c K Q) -∗ wpK c (f h K) Q)) :
    ∀ (n : ℕ) (hn : n ≤ M) (K : KProg F), Inv 0 ⊢ iprop((Inv n -∗ wpK c K Q) -∗ wpK c (upTo f n hn K) Q)
  | 0, hn, K => by
    rw [show upTo f 0 hn K = K from rfl]
    iintro H; iintro Hk
    iapply Hk; iexact H
  | n + 1, hn, K => by
    iintro H; iintro Hk
    iapply (show Inv 0 ⊢ iprop((Inv n -∗ wpK c (f ⟨n, hn⟩ K) Q) -∗ wpK c (upTo f (n + 1) hn K) Q) from upTo_step f c Q Inv hf n (Nat.le_of_succ_le hn) (f ⟨n, hn⟩ K)) $$ H
    iintro H
    iapply (hf ⟨n, hn⟩ K) $$ H
    iexact Hk

/-! ## The scaled queries -/

/-- The scaled queries as stored. -/
abbrev qsX (c : Dev nD) : S1024x2048.Idx → Elt F .bf16 := qsV (qX m c)

theorem z2 : (![0, 0] : Fin 2 → ℕ) = fun _ => 0 := funext fun a => by fin_cases a <;> rfl

theorem qStore_step (c : Dev nD) {K : KProg F} {Q : PUnit → sProp 𝕄} :
    iprop((((c : Thread nD τ).loc cc0_stg0_0) ↦{fullShare} qX m c) ∗ (∃ f, qsPts c f))
      ⊢ iprop((((((c : Thread nD τ).loc cc0_stg0_0) ↦{fullShare} qX m c) ∗ qsPts c (qsX m c)) -∗ wpK c K Q)
          -∗ wpK c (qStore qM qsM (Memref.isWhole_whole _) K) Q) := by
  unfold qStore qsPts
  iintro ⟨Hq, ⟨%f, Hs⟩⟩; iintro Hk
  have e1 : qM.view.readAt (Elt F) (Rect.unit (s := S1024x2048) ![0, 0] S1024x2048.size inb_S1024x2048_S1024x2048_0_0).toLoadRect (qX m c) = qX m c :=
    Memref.readAt_unit_zero (Elt F) cc0_stg0_0 z2 _ (qX m c)
  have e2 {w : S1024x2048.Idx → Elt F .bf16} :
      (qsM.access (Rect.unit (s := S1024x2048) ![0, 0] S1024x2048.size inb_S1024x2048_S1024x2048_0_0)).write (Elt F) f w Finset.univ = w :=
    Memref.write_access_unit_zero_univ (Elt F) cc0_scratch2 z2 _ f w
  iapply (wp_load 𝒱₀ (c : Thread nD τ) none Set.univ (m := qM) (Finset.subset_univ _)) $$ Hq; iintro Hq
  iapply (wp_load 𝒱₀ (c : Thread nD τ) none Set.univ (m := qsM) (Finset.subset_univ _)) $$ Hs; iintro Hs
  iapply (wp_store 𝒱₀ (c : Thread nD τ) none Set.univ (m := qsM) (r := Rect.unit (s := S1024x2048) ![0, 0] S1024x2048.size inb_S1024x2048_S1024x2048_0_0) (Mk := Finset.univ) (Finset.subset_univ _)) $$ Hs; iintro Hs
  iapply Hk
  isplitl [Hq]; · iexact Hq
  iapply (Entails.of_eq (congrArg (fun g => (((c : Thread nD τ).loc cc0_scratch2) ↦{fullShare} g : sProp 𝕄)) (e2.trans (congrArg qsV e1))))
  iexact Hs

/-! ## The local pass -/

/-- A head's weighted values after the local pass, from the scaled queries and the staged keys and values; -/
def o0 (qs : S1024x2048.Idx → Elt F .bf16) (kx vx : S1024x2048.Idx → Elt F .f32) (h : Fin 16) : S1024x128.Idx → Elt F .f32 := fun x =>
  oL (locB (hd kx h)) (locB (hd vx h)) (qb qs ⟨(x 0).val / 256, by have : (x 0).val < 1024 := (x 0).isLt; omega⟩ h) (ix2 ⟨(x 0).val % 256, Nat.mod_lt _ (by decide)⟩ (x 1))
/-- its row sums. -/
def l0 (qs : S1024x2048.Idx → Elt F .bf16) (kx : S1024x2048.Idx → Elt F .f32) (h : Fin 16) : S1024x1.Idx → Elt F .f32 := fun x =>
  lL (locB (hd kx h)) (qb qs ⟨(x 0).val / 256, by have : (x 0).val < 1024 := (x 0).isLt; omega⟩ h) (ix2 ⟨(x 0).val % 256, Nat.mod_lt _ (by decide)⟩ (x 1))

/-- Agreement on the heads below `h` and, of head `h`, on the rows below `n`. -/
def upRows {w : ℕ} (o g : Fin 16 → (⟨2, ![1024, w]⟩ : Shape).Idx → Elt F .f32) (h n : ℕ) : Prop :=
  ∀ (h' : Fin 16) (x : (⟨2, ![1024, w]⟩ : Shape).Idx), (h'.val < h ∨ h'.val = h ∧ (x 0).val < n) → g h' x = o h' x

theorem o_rows (qs : S1024x2048.Idx → Elt F .bf16) (kx vx : S1024x2048.Idx → Elt F .f32) (h : Fin 16) (i : Fin 4) (f : S1024x2048.Idx → Elt F .f32)
    (hf : upRows (w := 128) (o0 qs kx vx) (hd f) h.val (256 * i.val)) :
    upRows (w := 128) (o0 qs kx vx) (hd ((oM.access (Rect.unit (s := S1024x2048) ![256 * i.val, 128 * h.val] S256x128.size (inb_qb i h))).write (Elt F) f
      (oL (locB (hd kx h)) (locB (hd vx h)) (qb qs i h)) Finset.univ)) h.val (256 * (i.val + 1)) := by
  intro h' x hx
  have hx1 : (x 1 : ℕ) < 128 := (x 1).isLt
  have hx0 : (x 0 : ℕ) < 1024 := (x 0).isLt
  by_cases hin : h' = h ∧ 256 * i.val ≤ (x 0).val
  · obtain ⟨rfl, hi⟩ := hin
    have hlt : (x 0).val < 256 * (i.val + 1) := by rcases hx with h | h; exact absurd h (Nat.lt_irrefl _); exact h.2
    have e : (Rect.unit (s := S1024x2048) ![0, 128 * h'.val] S1024x128.size (inb_hd h')).emb x
        = (Rect.unit (s := S1024x2048) ![256 * i.val, 128 * h'.val] S256x128.size (inb_qb i h')).emb (ix2 (⟨(x 0).val % 256, Nat.mod_lt _ (by decide)⟩ : Fin 256) (x 1)) := by
      funext a
      apply Fin.ext
      match a with
      | ⟨0, _⟩ => show 0 + 1 * (x 0).val = 256 * i.val + 1 * ((x 0).val % 256); omega
      | ⟨1, _⟩ => rfl
    refine (congrArg _ e).trans ((wr_in cc0_stg3_0 _ f _ _).trans ?_)
    have ei : (⟨(x 0).val / 256, by omega⟩ : Fin 4) = i := Fin.ext (by show (x 0).val / 256 = i.val; omega)
    exact (congrArg (fun j => oL (locB (hd kx h')) (locB (hd vx h')) (qb qs j h') (ix2 (⟨(x 0).val % 256, Nat.mod_lt _ (by decide)⟩ : Fin 256) (x 1))) ei).symm
  · refine Eq.trans ?_ (hf h' x ?_)
    · refine wr_out cc0_stg3_0 _ f _ fun hm => hin ?_
      have g1 := (Rect.mem_set_unit.mp hm) 1
      have g0 := (Rect.mem_set_unit.mp hm) 0
      have g1' : 128 * h.val ≤ 128 * h'.val + 1 * (x 1 : ℕ) ∧ 128 * h'.val + 1 * (x 1 : ℕ) < 128 * h.val + 128 := g1
      have g0' : 256 * i.val ≤ 0 + 1 * (x 0 : ℕ) ∧ 0 + 1 * (x 0 : ℕ) < 256 * i.val + 256 := g0
      exact ⟨Fin.ext (by omega), by omega⟩
    · rcases hx with hx | hx
      · exact Or.inl hx
      · refine Or.inr ⟨hx.1, ?_⟩
        by_contra hc
        exact hin ⟨Fin.ext hx.1, by omega⟩

theorem l_rows (qs : S1024x2048.Idx → Elt F .bf16) (kx : S1024x2048.Idx → Elt F .f32) (h : Fin 16) (i : Fin 4) (f : S1024x128.Idx → Elt F .f32)
    (hf : upRows (w := 1) (l0 qs kx) (lc f) h.val (256 * i.val)) :
    upRows (w := 1) (l0 qs kx) (lc ((lM.access (Rect.unit (s := S1024x128) ![256 * i.val, h.val] S256x1.size (inb_lb i h))).write (Elt F) f
      (lL (locB (hd kx h)) (qb qs i h)) Finset.univ)) h.val (256 * (i.val + 1)) := by
  intro h' x hx
  have hx1 : (x 1 : ℕ) < 1 := (x 1).isLt
  have hx0 : (x 0 : ℕ) < 1024 := (x 0).isLt
  by_cases hin : h' = h ∧ 256 * i.val ≤ (x 0).val
  · obtain ⟨rfl, hi⟩ := hin
    have hlt : (x 0).val < 256 * (i.val + 1) := by rcases hx with h | h; exact absurd h (Nat.lt_irrefl _); exact h.2
    have e : (Rect.unit (s := S1024x128) ![0, h'.val] S1024x1.size (inb_l h')).emb x
        = (Rect.unit (s := S1024x128) ![256 * i.val, h'.val] S256x1.size (inb_lb i h')).emb (ix2 (⟨(x 0).val % 256, Nat.mod_lt _ (by decide)⟩ : Fin 256) (x 1)) := by
      funext a
      apply Fin.ext
      match a with
      | ⟨0, _⟩ => show 0 + 1 * (x 0).val = 256 * i.val + 1 * ((x 0).val % 256); omega
      | ⟨1, _⟩ => rfl
    refine (congrArg _ e).trans ((wr_in cc0_scratch1 _ f _ _).trans ?_)
    have ei : (⟨(x 0).val / 256, by omega⟩ : Fin 4) = i := Fin.ext (by show (x 0).val / 256 = i.val; omega)
    exact (congrArg (fun j => lL (locB (hd kx h')) (qb qs j h') (ix2 (⟨(x 0).val % 256, Nat.mod_lt _ (by decide)⟩ : Fin 256) (x 1))) ei).symm
  · refine Eq.trans ?_ (hf h' x ?_)
    · refine wr_out cc0_scratch1 _ f _ fun hm => hin ?_
      have g1 := (Rect.mem_set_unit.mp hm) 1
      have g0 := (Rect.mem_set_unit.mp hm) 0
      have g1' : h.val ≤ h'.val + 1 * (x 1 : ℕ) ∧ h'.val + 1 * (x 1 : ℕ) < h.val + 1 := g1
      have g0' : 256 * i.val ≤ 0 + 1 * (x 0 : ℕ) ∧ 0 + 1 * (x 0 : ℕ) < 256 * i.val + 256 := g0
      exact ⟨Fin.ext (by omega), by omega⟩
    · rcases hx with hx | hx
      · exact Or.inl hx
      · refine Or.inr ⟨hx.1, ?_⟩
        by_contra hc
        exact hin ⟨Fin.ext hx.1, by omega⟩

section Local
variable (c : Dev nD) (qs : S1024x2048.Idx → Elt F .bf16) (kx vx : S1024x2048.Idx → Elt F .f32)

/-- The local pass's state: the heads below `h` done and, of head `h`, the rows below `256 n`. -/
def locSt (h n : ℕ) : sProp 𝕄 :=
  iprop(qsPts c qs ∗ oAt c (fun g => upRows (w := 128) (o0 qs kx vx) g h (256 * n)) ∗ lAt c (fun g => upRows (w := 1) (l0 qs kx) g h (256 * n)))

theorem locRow_step (h : Fin 16) (i : Fin 4) (K : KProg F) (Q : PUnit → sProp 𝕄) :
    locSt c qs kx vx h.val i.val
      ⊢ iprop((locSt c qs kx vx h.val (i.val + 1) -∗ wpK c K Q) -∗ wpK c (locRow oM lM qsM (locB (hd kx h)) (locB (hd vx h)) h i K) Q) := by
  unfold locSt locRow qsPts oAt lAt
  iintro ⟨Hs, ⟨%fo, %ho, Ho⟩, ⟨%fl, %hl, Hl⟩⟩; iintro Hk
  iapply (wp_load 𝒱₀ (c : Thread nD τ) none Set.univ (m := qsM) (Finset.subset_univ _)) $$ Hs; iintro Hs
  iapply (wp_load 𝒱₀ (c : Thread nD τ) none Set.univ (m := lM) (Finset.subset_univ _)) $$ Hl; iintro Hl
  iapply (wp_store 𝒱₀ (c : Thread nD τ) none Set.univ (m := lM) (r := Rect.unit (s := S1024x128) ![256 * i.val, h.val] S256x1.size (inb_lb i h)) (Mk := Finset.univ) (Finset.subset_univ _)) $$ Hl; iintro Hl
  iapply (wp_load 𝒱₀ (c : Thread nD τ) none Set.univ (m := oM) (Finset.subset_univ _)) $$ Ho; iintro Ho
  iapply (wp_store 𝒱₀ (c : Thread nD τ) none Set.univ (m := oM) (r := Rect.unit (s := S1024x2048) ![256 * i.val, 128 * h.val] S256x128.size (inb_qb i h)) (Mk := Finset.univ) (Finset.subset_univ _)) $$ Ho; iintro Ho
  iapply Hk
  isplitl [Hs]; · iexact Hs
  isplitl [Ho]
  · iexists _; isplitr
    · ipureintro; exact o_rows qs kx vx h i fo ho
    iexact Ho
  iexists _; isplitr
  · ipureintro; exact l_rows qs kx h i fl hl
  iexact Hl

theorem locSt_next (h : ℕ) : locSt c qs kx vx h 4 ⊢ locSt c qs kx vx (h + 1) 0 := by
  unfold locSt
  refine sep_mono_right (BIClass.sep_mono (oAt_mono c fun f hf => ?_) (lAt_mono c fun f hf => ?_))
  all_goals
    intro h' x hx
    have hx0 : (x 0).val < 1024 := (x 0).isLt
    exact hf h' x (by omega)

theorem locHead_step (h : Fin 16) (qa qb : PosShare TreeShare) (K : KProg F) (Q : PUnit → sProp 𝕄) :
    iprop(kvPts c 0 Finset.univ qa kx ∗ kvPts c 1 Finset.univ qb vx ∗ locSt c qs kx vx h.val 0)
      ⊢ iprop(((kvPts c 0 Finset.univ qa kx ∗ kvPts c 1 Finset.univ qb vx ∗ locSt c qs kx vx (h.val + 1) 0) -∗ wpK c K Q)
          -∗ wpK c (locHead k1M v1M oM lM qsM h K) Q) := by
  unfold locHead kvPts
  iintro ⟨Hk1, Hv1, Hst⟩; iintro Hk
  iapply (wp_load 𝒱₀ (c : Thread nD τ) none Set.univ (m := k1M) (Finset.subset_univ _)) $$ Hk1; iintro Hk1
  iapply (wp_load 𝒱₀ (c : Thread nD τ) none Set.univ (m := v1M) (Finset.subset_univ _)) $$ Hv1; iintro Hv1
  iapply (upTo_step (locRow oM lM qsM (locB (hd kx h)) (locB (hd vx h)) h) c Q (fun n => locSt c qs kx vx h.val n)
    (fun i K => locRow_step c qs kx vx h i K Q) 4 (le_refl 4) K) $$ Hst
  iintro Hst
  ihave Hst := (locSt_next c qs kx vx h.val) $$ Hst
  iapply Hk
  isplitl [Hk1]; · iexact Hk1
  isplitl [Hv1]; · iexact Hv1
  iexact Hst

end Local

/-! ## A landed chunk -/

section Chunk
variable (c : Dev nD) (qs : S1024x2048.Idx → Elt F .bf16) (g : S2x1024x2048.Idx → Elt F .f32) (r : ℕ) (hr : r + 128 ≤ 1024)

/-- A head's weighted values with a chunk's added; -/
def oNext (o : Fin 16 → S1024x128.Idx → Elt F .f32) (h : Fin 16) : S1024x128.Idx → Elt F .f32 := oC (kvW g 0 r hr h) (kvW g 1 r hr h) (hd qs h) (o h)
/-- its row sums; -/
def lNext (l : Fin 16 → S1024x1.Idx → Elt F .f32) (h : Fin 16) : S1024x1.Idx → Elt F .f32 :=
  shapeCast S1024x1 (lC (kvW g 0 r hr h) (hd qs h) (l h)) shapeCasts_S1024x1_S1024x1
/-- its result from the last chunk. -/
def oLast (l : Fin 16 → S1024x1.Idx → Elt F .f32) (o : Fin 16 → S1024x128.Idx → Elt F .f32) (h : Fin 16) : S1024x128.Idx → Elt F .f32 :=
  oF (kvW g 0 r hr h) (kvW g 1 r hr h) (hd qs h) (l h) (o h)

/-- The heads below `n` from `a'`, the others from `a`. -/
def mixed {α : Type} (a a' : Fin 16 → α) (n : ℕ) (h : Fin 16) : α := if h.val < n then a' h else a h
theorem mixed_zero {α : Type} (a a' : Fin 16 → α) : mixed a a' 0 = a := by funext h; exact if_neg (Nat.not_lt_zero _)
theorem mixed_all {α : Type} (a a' : Fin 16 → α) : mixed a a' 16 = a' := by funext h; exact if_pos h.isLt
theorem mixed_at {α : Type} (a a' : Fin 16 → α) (h : Fin 16) : mixed a a' h.val h = a h := if_neg (Nat.lt_irrefl _)
theorem mixed_succ {α : Type} (a a' : Fin 16 → α) (h h' : Fin 16) :
    (if h' = h then a' h else mixed a a' h.val h') = mixed a a' (h.val + 1) h' := by
  unfold mixed
  by_cases e : h' = h
  · subst e; rw [if_pos rfl, if_pos (Nat.lt_succ_self _)]
  · rw [if_neg e]
    have : h'.val ≠ h.val := fun he => e (Fin.ext he)
    by_cases hlt : h'.val < h.val
    · rw [if_pos hlt, if_pos (by omega)]
    · rw [if_neg hlt, if_neg (by omega)]

/-- Both accumulators. -/
def acc (o : Fin 16 → S1024x128.Idx → Elt F .f32) (l : Fin 16 → S1024x1.Idx → Elt F .f32) : sProp 𝕄 :=
  iprop(qsPts c qs ∗ oAt c (fun f => f = o) ∗ lAt c (fun f => f = l))

omit [FloatOps F] in
theorem win_sub (t : Fin 2) (h : Fin 16) :
    (kM.view.setOn (Rect.unit (s := S2x1024x2048) ![t.val, r, 128 * h.val] S1x128x128.size (inb_kv h t.isLt hr)).toLoadRect.set) ⊆ winS t r := by
  intro i hi
  obtain ⟨j, hj, rfl⟩ := Finset.mem_map.mp hi
  have h0 := (Rect.mem_set_unit.mp hj) 0
  have h1 := (Rect.mem_set_unit.mp hj) 1
  have h0' : t.val ≤ (j 0 : ℕ) ∧ (j 0 : ℕ) < t.val + 1 := h0
  have h1' : r ≤ (j 1 : ℕ) ∧ (j 1 : ℕ) < r + 128 := h1
  refine mem_winS.mpr ⟨?_, ?_, ?_⟩
  · show (j 0 : ℕ) = _; omega
  · show r ≤ (j 1 : ℕ); omega
  · show (j 1 : ℕ) < _; omega

variable (qa qb : PosShare TreeShare) (o : Fin 16 → S1024x128.Idx → Elt F .f32) (l : Fin 16 → S1024x1.Idx → Elt F .f32)

theorem chHead_step (h : Fin 16) (K : KProg F) (Q : PUnit → sProp 𝕄) :
    iprop(winPts c 0 r qa g ∗ winPts c 1 r qb g ∗ acc c qs (mixed o (oNext qs g r hr o) h.val) (mixed l (lNext qs g r hr l) h.val))
      ⊢ iprop(((winPts c 0 r qa g ∗ winPts c 1 r qb g ∗ acc c qs (mixed o (oNext qs g r hr o) (h.val + 1)) (mixed l (lNext qs g r hr l) (h.val + 1))) -∗ wpK c K Q)
          -∗ wpK c (chHead oM kM lM qsM r hr h K) Q) := by
  unfold chHead acc winPts oAt lAt qsPts
  iintro ⟨Hw0, Hw1, Hs, ⟨%fo, %ho, Ho⟩, ⟨%fl, %hl, Hl⟩⟩; iintro Hk
  iapply (wp_load 𝒱₀ (c : Thread nD τ) none Set.univ (m := kM) (win_sub r hr 0 h)) $$ Hw0; iintro Hw0
  iapply (wp_load 𝒱₀ (c : Thread nD τ) none Set.univ (m := kM) (win_sub r hr 1 h)) $$ Hw1; iintro Hw1
  iapply (wp_load 𝒱₀ (c : Thread nD τ) none Set.univ (m := qsM) (Finset.subset_univ _)) $$ Hs; iintro Hs
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_store 𝒱₀ (c : Thread nD τ) none Set.univ (m := lM) (r := Rect.unit (s := S1024x128) ![0, h.val] S1024x1.size (inb_l h)) (Mk := Finset.univ) (Finset.subset_univ _)) $$ Hl; iintro Hl
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := Rect.unit (s := S1024x2048) ![0, 128 * h.val] S1024x128.size (inb_hd h)) (Mk := Finset.univ) (Finset.subset_univ _)) $$ Ho; iintro Ho
  iapply Hk
  isplitl [Hw0]; · iexact Hw0
  isplitl [Hw1]; · iexact Hw1
  isplitl [Hs]; · iexact Hs
  isplitl [Ho]
  · iexists _; isplitr; swap
    · iexact Ho
    · ipureintro
      funext h'
      refine (hd_write fo h h' _).trans (Eq.trans ?_ (mixed_succ o (oNext qs g r hr o) h h'))
      rw [ho]
      congr 1
      show oC (kvW g 0 r hr h) (kvW g 1 r hr h) (hd qs h) (hd fo h) = oC (kvW g 0 r hr h) (kvW g 1 r hr h) (hd qs h) (o h)
      rw [ho, mixed_at]
  iexists _; isplitr; swap
  · iexact Hl
  · ipureintro
    funext h'
    refine (lc_write fl h h' _).trans (Eq.trans ?_ (mixed_succ l (lNext qs g r hr l) h h'))
    rw [hl]
    congr 1
    show shapeCast S1024x1 (lC (kvW g 0 r hr h) (hd qs h) (lc fl h)) shapeCasts_S1024x1_S1024x1
      = shapeCast S1024x1 (lC (kvW g 0 r hr h) (hd qs h) (l h)) shapeCasts_S1024x1_S1024x1
    rw [hl, mixed_at]

theorem chunk_step (K : KProg F) (Q : PUnit → sProp 𝕄) :
    iprop(winPts c 0 r qa g ∗ winPts c 1 r qb g ∗ acc c qs o l)
      ⊢ iprop(((winPts c 0 r qa g ∗ winPts c 1 r qb g ∗ acc c qs (oNext qs g r hr o) (lNext qs g r hr l)) -∗ wpK c K Q)
          -∗ wpK c (chunk oM kM lM qsM r hr K) Q) := by
  have h := upTo_step (chHead oM kM lM qsM r hr) c Q
    (fun n => iprop(winPts c 0 r qa g ∗ winPts c 1 r qb g ∗ acc c qs (mixed o (oNext qs g r hr o) n) (mixed l (lNext qs g r hr l) n)))
    (fun h K => chHead_step c qs g r hr qa qb o l h K Q) 16 (le_refl 16) K
  simp only [mixed_zero, mixed_all] at h
  exact h

theorem finHead_step (h : Fin 16) (K : KProg F) (Q : PUnit → sProp 𝕄) :
    iprop(winPts c 0 r qa g ∗ winPts c 1 r qb g ∗ acc c qs (mixed o (oLast qs g r hr l o) h.val) l)
      ⊢ iprop(((winPts c 0 r qa g ∗ winPts c 1 r qb g ∗ acc c qs (mixed o (oLast qs g r hr l o) (h.val + 1)) l) -∗ wpK c K Q)
          -∗ wpK c (finHead oM kM lM qsM r hr h K) Q) := by
  unfold finHead acc winPts oAt lAt qsPts
  iintro ⟨Hw0, Hw1, Hs, ⟨%fo, %ho, Ho⟩, ⟨%fl, %hl, Hl⟩⟩; iintro Hk
  iapply (wp_load 𝒱₀ (c : Thread nD τ) none Set.univ (m := kM) (win_sub r hr 0 h)) $$ Hw0; iintro Hw0
  iapply (wp_load 𝒱₀ (c : Thread nD τ) none Set.univ (m := kM) (win_sub r hr 1 h)) $$ Hw1; iintro Hw1
  iapply (wp_load 𝒱₀ (c : Thread nD τ) none Set.univ (m := qsM) (Finset.subset_univ _)) $$ Hs; iintro Hs
  iapply (wp_load 𝒱₀ (c : Thread nD τ) none Set.univ (m := lM) (Finset.subset_univ _)) $$ Hl; iintro Hl
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := Rect.unit (s := S1024x2048) ![0, 128 * h.val] S1024x128.size (inb_hd h)) (Mk := Finset.univ) (Finset.subset_univ _)) $$ Ho; iintro Ho
  iapply Hk
  isplitl [Hw0]; · iexact Hw0
  isplitl [Hw1]; · iexact Hw1
  isplitl [Hs]; · iexact Hs
  isplitl [Ho]
  · iexists _; isplitr; swap
    · iexact Ho
    · ipureintro
      funext h'
      refine (hd_write fo h h' _).trans (Eq.trans ?_ (mixed_succ o (oLast qs g r hr l o) h h'))
      rw [ho]
      congr 1
      show oF (kvW g 0 r hr h) (kvW g 1 r hr h) (hd qs h) (lc fl h) (hd fo h) = oF (kvW g 0 r hr h) (kvW g 1 r hr h) (hd qs h) (l h) (o h)
      rw [ho, hl, mixed_at]
  iexists _; isplitr
  · ipureintro; exact hl
  iexact Hl

theorem fin_step (K : KProg F) (Q : PUnit → sProp 𝕄) :
    iprop(winPts c 0 r qa g ∗ winPts c 1 r qb g ∗ acc c qs o l)
      ⊢ iprop(((winPts c 0 r qa g ∗ winPts c 1 r qb g ∗ acc c qs (oLast qs g r hr l o) l) -∗ wpK c K Q)
          -∗ wpK c (upTo (finHead oM kM lM qsM r hr) 16 (le_refl 16) K) Q) := by
  have h := upTo_step (finHead oM kM lM qsM r hr) c Q
    (fun n => iprop(winPts c 0 r qa g ∗ winPts c 1 r qb g ∗ acc c qs (mixed o (oLast qs g r hr l o) n) l))
    (fun h K => finHead_step c qs g r hr qa qb o l h K Q) 16 (le_refl 16) K
  simp only [mixed_zero, mixed_all] at h
  exact h

end Chunk

/-! ## The whole local pass -/

theorem local_step (c : Dev nD) (qs : S1024x2048.Idx → Elt F .bf16) (kx vx : S1024x2048.Idx → Elt F .f32) (qa qb : PosShare TreeShare) (K : KProg F) (Q : PUnit → sProp 𝕄) :
    iprop(kvPts c 0 Finset.univ qa kx ∗ kvPts c 1 Finset.univ qb vx ∗ qsPts c qs
        ∗ (∃ f, (((c : Thread nD τ).loc cc0_stg3_0) ↦{fullShare} f)) ∗ (∃ f, (((c : Thread nD τ).loc cc0_scratch1) ↦{fullShare} f)))
      ⊢ iprop(((kvPts c 0 Finset.univ qa kx ∗ kvPts c 1 Finset.univ qb vx ∗ acc c qs (o0 qs kx vx) (l0 qs kx)) -∗ wpK c K Q)
          -∗ wpK c (upTo (locHead k1M v1M oM lM qsM) 16 (le_refl 16) K) Q) := by
  iintro ⟨H1, H2, Hs, ⟨%fo, Ho⟩, ⟨%fl, Hl⟩⟩; iintro Hk
  iapply (upTo_step (locHead k1M v1M oM lM qsM) c Q
    (fun n => iprop(kvPts c 0 Finset.univ qa kx ∗ kvPts c 1 Finset.univ qb vx ∗ locSt c qs kx vx n 0))
    (fun h K => locHead_step c qs kx vx h qa qb K Q) 16 (le_refl 16) K) $$ [H1 H2 Hs Ho Hl]
  · isplitl [H1]; · iexact H1
    isplitl [H2]; · iexact H2
    unfold locSt oAt lAt
    isplitl [Hs]; · iexact Hs
    isplitl [Ho]
    · iexists fo; isplitr
      · ipureintro; intro h' x hx; omega
      iexact Ho
    iexists fl; isplitr
    · ipureintro; intro h' x hx; omega
    iexact Hl
  iintro ⟨H1, H2, Hst⟩
  iapply Hk
  isplitl [H1]; · iexact H1
  isplitl [H2]; · iexact H2
  unfold locSt acc
  iapply (show iprop(qsPts c qs ∗ oAt c (fun g => upRows (w := 128) (o0 qs kx vx) g 16 (256 * 0)) ∗ lAt c (fun g => upRows (w := 1) (l0 qs kx) g 16 (256 * 0)))
      ⊢ (iprop(qsPts c qs ∗ oAt c (fun f => f = o0 qs kx vx) ∗ lAt c (fun f => f = l0 qs kx)) : sProp 𝕄) from
    sep_mono_right (BIClass.sep_mono (oAt_mono c fun f hf => by funext h' x; exact hf h' x (Or.inl h'.isLt)) (lAt_mono c fun f hf => by funext h' x; exact hf h' x (Or.inl h'.isLt))))
  iexact Hst

end Cert.Attn

end
-- ==== Proof.BodyRun.lean ====
/- The body on one device: from its operands, its landing buffer and its rights, to its result with every counter
   at zero. -/
module

public import proofs.«01_k».proof.Proof.Phases
public import proofs.«01_k».proof.Proof.Steps

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The accumulators -/

/-- The chunk numbered `n`. -/
def ch (n : ℕ) : Fin 8 := ⟨n % 8, Nat.mod_lt _ (by decide)⟩

/-- The heads' results after `n` landed chunks; -/
def oS (c : Dev nD) : ℕ → Fin 16 → S1024x128.Idx → Elt F .f32
  | 0 => o0 (qsX m c) (kX m c) (vX m c)
  | n + 1 => oNext (qsX m c) (land m c) (rowsW c (ch n)) (rowsW_le c _) (oS c n)
/-- their row sums. -/
def lS (c : Dev nD) : ℕ → Fin 16 → S1024x1.Idx → Elt F .f32
  | 0 => l0 (qsX m c) (kX m c)
  | n + 1 => lNext (qsX m c) (land m c) (rowsW c (ch n)) (rowsW_le c _) (lS c n)
/-- The heads' final results, -/
def oEnd (c : Dev nD) : Fin 16 → S1024x128.Idx → Elt F .f32 :=
  oLast (qsX m c) (land m c) (rowsW c 7) (rowsW_le c 7) (lS m c 7) (oS m c 7)
/-- side by side. -/
def outAt (c : Dev nD) : S1024x2048.Idx → Elt F .f32 := fun i =>
  oEnd m c ⟨(i 1).val / 128, by have : (i 1).val < 2048 := (i 1).isLt; omega⟩ (ix2 (i 0) ⟨(i 1).val % 128, Nat.mod_lt _ (by decide)⟩)

theorem out_of_heads (c : Dev nD) (f : S1024x2048.Idx → Elt F .f32) (h : hd f = oEnd m c) : f = outAt m c := by
  funext i
  unfold outAt
  rw [← h]
  unfold hd
  refine congrArg f ?_
  have h1 : (i 1).val < 2048 := (i 1).isLt
  funext a
  apply Fin.ext
  match a with
  | ⟨0, _⟩ => show (i 0).val = 0 + 1 * (i 0).val; omega
  | ⟨1, _⟩ => show (i 1).val = 128 * ((i 1).val / 128) + 1 * ((i 1).val % 128); omega

/-- The accumulators after `n` chunks. -/
def accS (c : Dev nD) (n : ℕ) : sProp 𝕄 := acc c (qsX m c) (oS m c n) (lS m c n)

section Body
variable (Kn : Dev nD × CI → ℕ) (c : Dev nD)

theorem chunkW (Q : PUnit → sProp 𝕄) (p : Fin 8) (n : ℕ) (hp : ch n = p) (q : PosShare TreeShare) (K : KProg F) :
    iprop(Wn m c p q ∗ accS m c n)
      ⊢ iprop(((Wn m c p q ∗ accS m c (n + 1)) -∗ wpK c K Q) -∗ wpK c (chunk oM kM lM qsM (rowsW c p) (rowsW_le c p) K) Q) := by
  subst hp
  unfold Wn accS
  iintro ⟨⟨H0, H1⟩, Ha⟩; iintro Hk
  iapply (chunk_step c (qsX m c) (land m c) _ (rowsW_le c _) q q (oS m c n) (lS m c n) K Q) $$ [H0 H1 Ha]
  · isplitl [H0]; · iexact H0
    isplitl [H1]; · iexact H1
    iexact Ha
  iintro ⟨H0, H1, Ha⟩
  iapply Hk
  isplitl [H0 H1]
  · isplitl [H0]; · iexact H0
    iexact H1
  iexact Ha

theorem finW (Q : PUnit → sProp 𝕄) (q : PosShare TreeShare) (K : KProg F) :
    iprop(Wn m c 7 q ∗ accS m c 7)
      ⊢ iprop(((Wn m c 7 q ∗ acc c (qsX m c) (oEnd m c) (lS m c 7)) -∗ wpK c K Q)
          -∗ wpK c (upTo (finHead oM kM lM qsM (rowsW c 7) (rowsW_le c 7)) 16 (le_refl 16) K) Q) := by
  unfold Wn accS
  iintro ⟨⟨H0, H1⟩, Ha⟩; iintro Hk
  iapply (fin_step c (qsX m c) (land m c) _ (rowsW_le c _) q q (oS m c 7) (lS m c 7) K Q) $$ [H0 H1 Ha]
  · isplitl [H0]; · iexact H0
    isplitl [H1]; · iexact H1
    iexact Ha
  iintro ⟨H0, H1, Ha⟩
  iapply Hk
  isplitl [H0 H1]
  · isplitl [H0]; · iexact H0
    iexact H1
  iexact Ha

/-! ## The lists owed -/

abbrev I4 : List Item := [it 0 7, it 1 7, it 0 6, it 1 6]
abbrev I3 : List Item := it 0 3 :: it 0 5 :: it 1 3 :: it 1 5 :: I4
abbrev I2 : List Item := it 0 2 :: it 0 4 :: it 1 2 :: it 1 4 :: I3
abbrev I1 : List Item := it 0 0 :: it 1 0 :: it 0 1 :: it 1 1 :: I2

/-! ## The landings -/

/-- What the landings leave. -/
def landed : sProp 𝕄 :=
  iprop((Zr c 0 ∗ Zr c 1 ∗ Zr c 2 ∗ Zr c 3 ∗ Zr c 4 ∗ Zr c 5 ∗ Zr c 6 ∗ Zr c 7)
    ∗ (Wn m c 0 fullShare.left ∗ Wn m c 1 fullShare.left ∗ Wn m c 2 fullShare ∗ Wn m c 3 fullShare.left ∗ Wn m c 4 fullShare.left
      ∗ Wn m c 5 fullShare ∗ Wn m c 6 fullShare ∗ Wn m c 7 fullShare)
    ∗ (Rn c 2 ∗ Rn c 3 ∗ Rn c 4 ∗ Rn c 5 ∗ Rn c 6 ∗ Rn c 7))

theorem lands_step (Q : PUnit → sProp 𝕄) (nx nz : Dev nD) (hx : nx = nbd 1 c) (hz : nz = nbd 2 c) (K : KProg F) :
    iprop(records m Kn ∗ levAts L lv
        ∗ (Rk c 0 ∗ Rk c 1 ∗ Rk c 2 ∗ Rk c 3 ∗ Rk c 4 ∗ Rk c 5 ∗ Rk c 6 ∗ Rk c 7)
        ∗ (Tk c 2 ∗ Tk c 3 ∗ Tk c 4 ∗ Tk c 5 ∗ Tk c 6 ∗ Tk c 7)
        ∗ barPay c 1 ∗ barPay c 2 ∗ accS m c 0 ∗ ow c I2)
      ⊢ iprop(((landed m c ∗ acc c (qsX m c) (oEnd m c) (lS m c 7) ∗ ow c []) -∗ wpK c K Q)
          -∗ wpK c (lands k1M v1M oM kM lM qsM cc0_scratch4 cc0_scratch5 cc0_scratch6 cc0_scratch7 cc0_scratch8 nx nz (rowsW c) (rowsW_le c) K) Q) := by
  unfold barPay lands landed
  dsimp only
  iintro ⟨#HR, #HL, ⟨R0, R1, R2, R3, R4, R5, R6, R7⟩, ⟨T2, T3, T4, T5, T6, T7⟩, ⟨D2, D3, D6⟩, ⟨D4, D5, D7⟩, Ha, HO⟩; iintro Hk
  iapply (yLand2 m Kn c Q nx nz hx hz 0 0 2 4 rfl rfl rfl I3 (by decide)) $$ [R0 T2 T4 D2 D4 HO]
  · isplitr; · iexact HR
    isplitr; · iexact HL
    isplitl [R0]; · iexact R0
    isplitl [T2]; · iexact T2
    isplitl [T4]; · iexact T4
    isplitl [D2]; · iexact D2
    isplitl [D4]; · iexact D4
    iexact HO
  iintro ⟨Z0, W0, N2, N4, HO⟩
  iapply (chunkW m c Q 0 0 rfl fullShare.left _) $$ [W0 Ha]
  · isplitl [W0]; · iexact W0
    iexact Ha
  iintro ⟨W0, Ha⟩
  iapply (yLand2 m Kn c Q nx nz hx hz 1 1 3 5 rfl rfl rfl I4 (by decide)) $$ [R1 T3 T5 D3 D5 HO]
  · isplitr; · iexact HR
    isplitr; · iexact HL
    isplitl [R1]; · iexact R1
    isplitl [T3]; · iexact T3
    isplitl [T5]; · iexact T5
    isplitl [D3]; · iexact D3
    isplitl [D5]; · iexact D5
    iexact HO
  iintro ⟨Z1, W1, N3, N5, HO⟩
  iapply (chunkW m c Q 1 1 rfl fullShare.left _) $$ [W1 Ha]
  · isplitl [W1]; · iexact W1
    iexact Ha
  iintro ⟨W1, Ha⟩
  iapply (recv2 m Kn c Q 2 rfl rfl I4 (by decide)) $$ [R2 HO]
  · isplitr; · iexact HR
    isplitr; · iexact HL
    isplitl [R2]; · iexact R2
    iexact HO
  iintro ⟨Z2, W2, HO⟩
  iapply (chunkW m c Q 2 2 rfl fullShare _) $$ [W2 Ha]
  · isplitl [W2]; · iexact W2
    iexact Ha
  iintro ⟨W2, Ha⟩
  iapply (recvFwd2 m Kn c Q 3 7 nz hz (by decide) rfl rfl rfl rfl rfl rfl rfl rfl [it 0 6, it 1 6] (by decide)) $$ [R3 T7 D7 HO]
  · isplitr; · iexact HR
    isplitr; · iexact HL
    isplitl [R3]; · iexact R3
    isplitl [T7]; · iexact T7
    isplitl [D7]; · iexact D7
    iexact HO
  iintro ⟨Z3, W3, N7, HO⟩
  iapply (chunkW m c Q 3 3 rfl fullShare.left _) $$ [W3 Ha]
  · isplitl [W3]; · iexact W3
    iexact Ha
  iintro ⟨W3, Ha⟩
  iapply (recvFwd2 m Kn c Q 4 6 nx hx (by decide) rfl rfl rfl rfl rfl rfl rfl rfl [] (by decide)) $$ [R4 T6 D6 HO]
  · isplitr; · iexact HR
    isplitr; · iexact HL
    isplitl [R4]; · iexact R4
    isplitl [T6]; · iexact T6
    isplitl [D6]; · iexact D6
    iexact HO
  iintro ⟨Z4, W4, N6, HO⟩
  iapply (chunkW m c Q 4 4 rfl fullShare.left _) $$ [W4 Ha]
  · isplitl [W4]; · iexact W4
    iexact Ha
  iintro ⟨W4, Ha⟩
  iapply (recv2 m Kn c Q 5 rfl rfl [] (by decide)) $$ [R5 HO]
  · isplitr; · iexact HR
    isplitr; · iexact HL
    isplitl [R5]; · iexact R5
    iexact HO
  iintro ⟨Z5, W5, HO⟩
  iapply (chunkW m c Q 5 5 rfl fullShare _) $$ [W5 Ha]
  · isplitl [W5]; · iexact W5
    iexact Ha
  iintro ⟨W5, Ha⟩
  iapply (recv2 m Kn c Q 6 rfl rfl [] (by decide)) $$ [R6 HO]
  · isplitr; · iexact HR
    isplitr; · iexact HL
    isplitl [R6]; · iexact R6
    iexact HO
  iintro ⟨Z6, W6, HO⟩
  iapply (chunkW m c Q 6 6 rfl fullShare _) $$ [W6 Ha]
  · isplitl [W6]; · iexact W6
    iexact Ha
  iintro ⟨W6, Ha⟩
  iapply (recv2 m Kn c Q 7 rfl rfl [] (by decide)) $$ [R7 HO]
  · isplitr; · iexact HR
    isplitr; · iexact HL
    isplitl [R7]; · iexact R7
    iexact HO
  iintro ⟨Z7, W7, HO⟩
  iapply (finW m c Q fullShare K) $$ [W7 Ha]
  · isplitl [W7]; · iexact W7
    iexact Ha
  iintro ⟨W7, Ha⟩
  iapply Hk
  isplitr [Ha HO]
  · isplitl [Z0 Z1 Z2 Z3 Z4 Z5 Z6 Z7]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      iexact Z7
    isplitl [W0 W1 W2 W3 W4 W5 W6 W7]
    · isplitl [W0]; · iexact W0
      isplitl [W1]; · iexact W1
      isplitl [W2]; · iexact W2
      isplitl [W3]; · iexact W3
      isplitl [W4]; · iexact W4
      isplitl [W5]; · iexact W5
      isplitl [W6]; · iexact W6
      iexact W7
    isplitl [N2]; · iexact N2
    isplitl [N3]; · iexact N3
    isplitl [N4]; · iexact N4
    isplitl [N5]; · iexact N5
    isplitl [N6]; · iexact N6
    iexact N7
  isplitl [Ha]; · iexact Ha
  iexact HO

/-! ## The sends' completions -/

/-- Every window, landed, -/
def wins : sProp 𝕄 :=
  iprop(Wn m c 0 fullShare ∗ Wn m c 1 fullShare ∗ Wn m c 2 fullShare ∗ Wn m c 3 fullShare ∗ Wn m c 4 fullShare
      ∗ Wn m c 5 fullShare ∗ Wn m c 6 fullShare ∗ Wn m c 7 fullShare)
/-- and every counter at zero. -/
def zeros : sProp 𝕄 :=
  iprop((bigSep Finset.univ fun p : Fin 8 => Zs c p) ∗ bigSep Finset.univ fun p : Fin 8 => Zr c p)

theorem sent_all (Q : PUnit → sProp 𝕄) (K : KProg F) :
    iprop(records m Kn ∗ levAts L lv ∗ Rn c 0 ∗ Rn c 1 ∗ landed m c ∗ ow c [])
      ⊢ iprop(((zeros c ∗ wins m c ∗ Sn m c 0 ∗ Sn m c 1 ∗ ow c []) -∗ wpK c K Q)
          -∗ wpK c (sentAll k1M v1M kM cc0_scratch3 cc0_scratch5 cc0_scratch7 (rowsW c) (rowsW_le c) K) Q) := by
  unfold landed sentAll wins zeros
  rw [sep_fin8, sep_fin8]
  iintro ⟨#HR, #HL, N0, N1, ⟨HZ, ⟨W0, W1, W2, W3, W4, W5, W6, W7⟩, ⟨N2, N3, N4, N5, N6, N7⟩⟩, HO⟩; iintro Hk
  iapply (ySent2 m Kn c Q 0 0 rfl) $$ [N0 HO]
  · isplitr; · iexact HR
    isplitr; · iexact HL
    isplitl [N0]; · iexact N0
    iexact HO
  iintro ⟨Z0, S0, HO⟩
  iapply (ySent2 m Kn c Q 1 1 rfl) $$ [N1 HO]
  · isplitr; · iexact HR
    isplitr; · iexact HL
    isplitl [N1]; · iexact N1
    iexact HO
  iintro ⟨Z1, S1, HO⟩
  iapply (sent4 m Kn c Q 0 2 4 (by decide) (by decide) rfl rfl rfl rfl rfl rfl rfl rfl) $$ [N2 N4 HO]
  · isplitr; · iexact HR
    isplitr; · iexact HL
    isplitl [N2]; · iexact N2
    isplitl [N4]; · iexact N4
    iexact HO
  iintro ⟨Z2, Z4, V0, HO⟩
  iapply (sent4 m Kn c Q 1 3 5 (by decide) (by decide) rfl rfl rfl rfl rfl rfl rfl rfl) $$ [N3 N5 HO]
  · isplitr; · iexact HR
    isplitr; · iexact HL
    isplitl [N3]; · iexact N3
    isplitl [N5]; · iexact N5
    iexact HO
  iintro ⟨Z3, Z5, V1, HO⟩
  iapply (sent2 m Kn c Q 3 7 fullShare.right (by decide) rfl rfl rfl rfl) $$ [N7 HO]
  · isplitr; · iexact HR
    isplitr; · iexact HL
    isplitl [N7]; · iexact N7
    iexact HO
  iintro ⟨Z7, V3, HO⟩
  iapply (sent2 m Kn c Q 4 6 fullShare.right (by decide) rfl rfl rfl rfl) $$ [N6 HO]
  · isplitr; · iexact HR
    isplitr; · iexact HL
    isplitl [N6]; · iexact N6
    iexact HO
  iintro ⟨Z6, V4, HO⟩
  iapply Hk
  isplitl [HZ Z0 Z1 Z2 Z3 Z4 Z5 Z6 Z7]
  · isplitr [HZ]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      iexact Z7
    iexact HZ
  isplitl [W0 W1 W2 W3 W4 W5 W6 W7 V0 V1 V3 V4]
  · isplitl [W0 V0]
    · iapply (Wn_join m c 0); isplitl [W0]; · iexact W0
      iexact V0
    isplitl [W1 V1]
    · iapply (Wn_join m c 1); isplitl [W1]; · iexact W1
      iexact V1
    isplitl [W2]; · iexact W2
    isplitl [W3 V3]
    · iapply (Wn_join m c 3); isplitl [W3]; · iexact W3
      iexact V3
    isplitl [W4 V4]
    · iapply (Wn_join m c 4); isplitl [W4]; · iexact W4
      iexact V4
    isplitl [W5]; · iexact W5
    isplitl [W6]; · iexact W6
    iexact W7
  isplitl [S0]; · iexact S0
  isplitl [S1]; · iexact S1
  iexact HO

/-! ## The body -/

/-- What a device holds of the exchange at launch, apart from its debt and its scratch. -/
def rights : sProp 𝕄 :=
  iprop(atPos ER (barCell c) 0 ∅ 0 ∗ cred (tallyAt (barCell c) () 3)
    ∗ (dutyTok ER (barCell (nbd 0 c)) 0 0 ∗ dutyTok ER (barCell (nbd 1 c)) 0 1 ∗ dutyTok ER (barCell (nbd 2 c)) 0 2)
    ∗ (bigSep Finset.univ fun p : Fin 8 => Tk c p) ∗ bigSep Finset.univ fun p : Fin 8 => Rk c p)
/-- Its scratch. -/
def scratch : sProp 𝕄 :=
  iprop((∃ f, (((c : Thread nD τ).loc cc0_scratch0) ↦{fullShare} f)) ∗ (∃ f, (((c : Thread nD τ).loc cc0_scratch1) ↦{fullShare} f))
    ∗ (∃ f, (((c : Thread nD τ).loc cc0_scratch2) ↦{fullShare} f)))
/-- Its operands. -/
def opnds : sProp 𝕄 :=
  iprop((((c : Thread nD τ).loc cc0_stg0_0) ↦{fullShare} qX m c) ∗ (((c : Thread nD τ).loc cc0_stg1_0) ↦{fullShare} kX m c)
    ∗ (((c : Thread nD τ).loc cc0_stg2_0) ↦{fullShare} vX m c))

theorem rest_join (t : Fin 2) :
    iprop(kvPts c t Finset.univ fullShare.left (kvX m c t) ∗ kvPts c t (srcS (rowsW c 0)) fullShare.right (kvX m c t)
      ∗ kvPts c t (srcS (rowsW c 1)) fullShare.right (kvX m c t) ∗ kvPts c t (restS c) fullShare.right (kvX m c t))
      ⊢ kvPts c t Finset.univ fullShare (kvX m c t) := (kv_split c t (kvX m c t)).2

omit [FloatOps F] in
theorem winEx (f : S2x1024x2048.Idx → Elt F .f32) (p : Fin 8) :
    iprop(winPts c 0 (rowsW c p) fullShare f ∗ winPts c 1 (rowsW c p) fullShare f) ⊢ (dstW c p : sProp 𝕄) := by
  unfold dstW
  iintro ⟨H0, H1⟩
  isplitl [H0]
  · iexists f; iexact H0
  · iexists f; iexact H1

theorem wins_whole : wins m c ⊢ (((c : Thread nD τ).loc cc0_scratch0) ↦{fullShare} land m c) := by
  rw [land_windows, sep_fin8]; unfold wins Wn; exact BIBase.Entails.refl

set_option maxRecDepth 4000 in
theorem body_run (Q : PUnit → sProp 𝕄) (ny nx nz : Dev nD) (hy : ny = nbd 0 c) (hx : nx = nbd 1 c) (hz : nz = nbd 2 c) :
    iprop(records m Kn ∗ levAts L lv ∗ rights c ∗ scratch c ∗ opnds m c ∗ (∃ f, (((c : Thread nD τ).loc cc0_stg3_0) ↦{fullShare} f)) ∗ ow c items)
      ⊢ iprop(((zeros c ∗ semVal (barCell c) 0 ∗ scratch c ∗ opnds m c ∗ (((c : Thread nD τ).loc cc0_stg3_0) ↦{fullShare} outAt m c) ∗ ow c [])
            -∗ wpK c (.ret ⟨⟩) Q)
          -∗ wpK c (body qM k1M v1M oM kM lM qsM (Memref.isWhole_whole _) cc0_scratch3 cc0_scratch4 cc0_scratch5 cc0_scratch6 cc0_scratch7 cc0_scratch8
              ny nx nz (rowsW c) (rowsW_le c)) Q) := by
  unfold rights scratch opnds body
  rw [sep_fin8, sep_fin8]
  iintro ⟨#HR, #HL, ⟨Hb, Hc, ⟨B0, B1, B2⟩, ⟨T0, T1, T2, T3, T4, T5, T6, T7⟩, HRk⟩, ⟨⟨%f0, Hs0⟩, Hs1, Hs2⟩, ⟨HQ, HK, HV⟩, Ho, HO⟩; iintro Hk
  icases HRk with ⟨R0, R1, R2, R3, R4, R5, R6, R7⟩
  ihave Hs0 := (Entails.of_eq ((land_windows c f0).trans (sep_fin8 _))) $$ Hs0
  icases Hs0 with ⟨D0, D1, D2, D3, D4, D5, D6, D7⟩
  ihave D0 := (winEx c f0 0) $$ D0
  ihave D1 := (winEx c f0 1) $$ D1
  ihave D2 := (winEx c f0 2) $$ D2
  ihave D3 := (winEx c f0 3) $$ D3
  ihave D4 := (winEx c f0 4) $$ D4
  ihave D5 := (winEx c f0 5) $$ D5
  ihave D6 := (winEx c f0 6) $$ D6
  ihave D7 := (winEx c f0 7) $$ D7
  rw [show items = .inl 0 :: .inl 1 :: .inl 2 :: I1 from rfl]
  iapply (signal_step m Kn c ny 0 hy (.inl 1 :: .inl 2 :: I1)) $$ [B0 D0 D1 HO]
  · isplitr; · iexact HR
    isplitl [B0]; · iexact B0
    isplitl [D0 D1]
    · unfold barPay; dsimp only; rw [nbd_nbd]
      isplitl [D0]; · iexact D0
      iexact D1
    iexact HO
  iintro HO
  iapply (signal_step m Kn c nx 1 hx (.inl 2 :: I1)) $$ [B1 D2 D3 D6 HO]
  · isplitr; · iexact HR
    isplitl [B1]; · iexact B1
    isplitl [D2 D3 D6]
    · unfold barPay; dsimp only; rw [nbd_nbd]
      isplitl [D2]; · iexact D2
      isplitl [D3]; · iexact D3
      iexact D6
    iexact HO
  iintro HO
  iapply (signal_step m Kn c nz 2 hz I1) $$ [B2 D4 D5 D7 HO]
  · isplitr; · iexact HR
    isplitl [B2]; · iexact B2
    isplitl [D4 D5 D7]
    · unfold barPay; dsimp only; rw [nbd_nbd]
      isplitl [D4]; · iexact D4
      isplitl [D5]; · iexact D5
      iexact D7
    iexact HO
  iintro HO
  iapply (bar_wait m Kn c I1 (by decide)) $$ [Hb Hc HO]
  · isplitr; · iexact HR
    isplitr; · iexact HL
    isplitl [Hb]; · iexact Hb
    isplitl [Hc]; · iexact Hc
    iexact HO
  iintro ⟨Hb, ⟨P0, P1, P2⟩, HO⟩
  ihave P0 := (show barPay c 0 ⊢ (iprop(dstW (nb 0 c) 0 ∗ dstW (nb 1 c) 1) : sProp 𝕄) from BIBase.Entails.refl) $$ P0
  icases P0 with ⟨D0, D1⟩
  ihave HK := (show (((c : Thread nD τ).loc cc0_stg1_0) ↦{fullShare} kX m c) ⊢ _ from (kv_split c 0 (kvX m c 0)).1) $$ HK
  icases HK with ⟨K, K0, K1, KR⟩
  ihave HV := (show (((c : Thread nD τ).loc cc0_stg2_0) ↦{fullShare} vX m c) ⊢ _ from (kv_split c 1 (kvX m c 1)).1) $$ HV
  icases HV with ⟨V, V0, V1, VR⟩
  iapply (ySend2 m Kn c Q ny hy 0 0 rfl (it 0 1 :: it 1 1 :: I2)) $$ [T0 D0 K0 V0 HO]
  · isplitr; · iexact HR
    isplitl [T0]; · iexact T0
    isplitl [D0]; · iexact D0
    isplitl [K0 V0]
    · unfold Sn; isplitl [K0]; · iexact K0
      iexact V0
    iexact HO
  iintro ⟨N0, HO⟩
  iapply (ySend2 m Kn c Q ny hy 1 1 rfl I2) $$ [T1 D1 K1 V1 HO]
  · isplitr; · iexact HR
    isplitl [T1]; · iexact T1
    isplitl [D1]; · iexact D1
    isplitl [K1 V1]
    · unfold Sn; isplitl [K1]; · iexact K1
      iexact V1
    iexact HO
  iintro ⟨N1, HO⟩
  iapply (qStore_step m c) $$ [HQ Hs2]
  · isplitl [HQ]; · iexact HQ
    iexact Hs2
  iintro ⟨HQ, Hs2⟩
  iapply (local_step c (qsX m c) (kX m c) (vX m c) fullShare.left fullShare.left _ Q) $$ [K V Hs2 Ho Hs1]
  · isplitl [K]; · iexact K
    isplitl [V]; · iexact V
    isplitl [Hs2]; · iexact Hs2
    isplitl [Ho]; · iexact Ho
    iexact Hs1
  iintro ⟨K, V, Ha⟩
  iapply (lands_step m Kn c Q nx nz hx hz) $$ [R0 R1 R2 R3 R4 R5 R6 R7 T2 T3 T4 T5 T6 T7 P1 P2 Ha HO]
  · isplitr; · iexact HR
    isplitr; · iexact HL
    isplitl [R0 R1 R2 R3 R4 R5 R6 R7]
    · isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
    isplitl [T2 T3 T4 T5 T6 T7]
    · isplitl [T2]; · iexact T2
      isplitl [T3]; · iexact T3
      isplitl [T4]; · iexact T4
      isplitl [T5]; · iexact T5
      isplitl [T6]; · iexact T6
      iexact T7
    isplitl [P1]; · iexact P1
    isplitl [P2]; · iexact P2
    isplitl [Ha]; · unfold accS oS lS; iexact Ha
    iexact HO
  iintro ⟨Hl, Ha, HO⟩
  iapply (sent_all m Kn c Q) $$ [N0 N1 Hl HO]
  · isplitr; · iexact HR
    isplitr; · iexact HL
    isplitl [N0]; · iexact N0
    isplitl [N1]; · iexact N1
    isplitl [Hl]; · iexact Hl
    iexact HO
  iintro ⟨Hz, HW, S0, S1, HO⟩
  unfold Sn
  icases S0 with ⟨K0, V0⟩
  icases S1 with ⟨K1, V1⟩
  iapply Hk
  unfold acc oAt lAt qsPts
  icases Ha with ⟨Hs2, ⟨%fo, %ho, Ho⟩, ⟨%fl, %hfl, Hs1⟩⟩
  isplitl [Hz]; · iexact Hz
  isplitl [Hb]; · iexact Hb
  isplitl [HW Hs1 Hs2]
  · isplitl [HW]
    · iexists (land m c); iapply (wins_whole m c); iexact HW
    isplitl [Hs1]; · iexists fl; iexact Hs1
    iexists _; iexact Hs2
  isplitl [HQ K K0 K1 KR V V0 V1 VR]
  · isplitl [HQ]; · iexact HQ
    isplitl [K K0 K1 KR]
    · iapply (show _ ⊢ (((c : Thread nD τ).loc cc0_stg1_0) ↦{fullShare} kX m c : sProp 𝕄) from rest_join m c 0)
      isplitl [K]; · iexact K
      isplitl [K0]; · iexact K0
      isplitl [K1]; · iexact K1
      iexact KR
    · iapply (show _ ⊢ (((c : Thread nD τ).loc cc0_stg2_0) ↦{fullShare} vX m c : sProp 𝕄) from rest_join m c 1)
      isplitl [V]; · iexact V
      isplitl [V0]; · iexact V0
      isplitl [V1]; · iexact V1
      iexact VR
  isplitl [Ho]
  · rw [out_of_heads m c fo ho]; iexact Ho
  iexact HO

end Body

end Cert.Attn

end
-- ==== Proof.Cut.lean ====
/- The printed body is the composition of segments. -/
module

public import proofs.«01_k».proof.Proof.Segs

@[expose] public section

noncomputable section

namespace Cert.Attn

open Cert.KernelIdeal Cert.KernelIdeal.Gen
open Idealize.ShloMosaic Idealize.SL.Sem

variable {F : FTy → Type} [FloatOps F]

set_option maxRecDepth 65536 in
/-- The printed body: the device read, then the segments at its neighbours and its chunks' rows. -/
theorem body_eq (arg0 : Memref sig .tc .vmem S1024x2048 .f32) (harg0 : arg0.IsWhole) (arg1 : Memref sig .tc .vmem S1024x2048 .f32) (harg1 : arg1.IsWhole)
    (arg2 : Memref sig .tc .vmem S1024x2048 .f32) (harg2 : arg2.IsWhole) (arg3 : Memref sig .tc .vmem S1024x2048 .f32) (harg3 : arg3.IsWhole)
    (arg4 : Memref sig .tc .vmem S2x1024x2048 .f32) (harg4 : arg4.IsWhole) (arg5 : Memref sig .tc .vmem S1024x128 .f32) (harg5 : arg5.IsWhole)
    (arg6 : Memref sig .tc .vmem S1024x2048 .bf16) (harg6 : arg6.IsWhole) (arg7 arg8 : DmaSems sig S2x2) (arg9 arg10 arg11 arg12 : DmaSems sig S2x3) :
    cc0_body (F := F) arg0 harg0 arg1 harg1 arg2 harg2 arg3 harg3 arg4 harg4 arg5 harg5 arg6 harg6 arg7 arg8 arg9 arg10 arg11 arg12
      = .op .deviceId fun d => body arg0 arg1 arg2 arg3 arg4 arg5 arg6 harg6 arg7 arg8 arg9 arg10 arg11 arg12
          ⟨k0_dev1 d, k0_dev1_lt d⟩ ⟨k0_dev2 d, k0_dev2_lt d⟩ ⟨k0_dev3 d, k0_dev3_lt d⟩ (rowsW d) (rowsW_le d) := by
  unfold cc0_body k0_part116 k0_part4 k0_part5 k0_part6 k0_part7 k0_part8
  simp (config := { zeta := true, beta := true }) only [Scf.for_eq]
  chain_rfl

end Cert.Attn

end
-- ==== Proof.MeshRun.lean ====
/- The launch: the exchange's cells allocated, its tokens dealt to the neighbours, and the run of @main on the mesh. -/
module

public import proofs.«01_k».proof.Proof.BodyRun
public import proofs.«01_k».proof.Proof.Cut
public import proofs.«01_k».proof.Proof.Gen.KernelIdeal.Launch
public import proofs.«01_k».proof.Proof.Gen.KernelIdeal.Points
public import Idealize.ShloMosaic.Lib.Pipeline.CollectiveSegs
public import Idealize.ShloMosaic.Lib.Quiescent

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at launch. -/
abbrev s₀ : MemSt nD τ sig (Elt F) := ⟨m, fun _ => 0, ρ⟩

/-! ## The window's data -/

def start (c : Dev nD) : sProp 𝕄 := iprop((∃ Kn, records m Kn) ∗ levAts L lv ∗ rights c)
def Φ₀ (c : Dev nD) : sProp 𝕄 := iprop(start m c ∗ scratch c)
def Φ₁ (c : Dev nD) : sProp 𝕄 := iprop(zeros c ∗ semVal (barCell c) 0 ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qX m c
    | ⟨1, _⟩ => kX m c
    | ⟨2, _⟩ => vX m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_w (w : Fin 4) (hw : w.val < 3) (t : Fin cfg0.N) : (cfg0.win w).fetch t = true := by
  rw [fin_N t]
  match w with
  | 0 => rfl
  | 1 => rfl
  | 2 => rfl
  | 3 => exact absurd hw (by decide)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body's obligation -/

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ ∗ stg c cc0_stg0_0 (qX m c) ∗ stg c cc0_stg1_0 (kX m c) ∗ stg c cc0_stg2_0 (vX m c)
    ∗ stg c cc0_stg3_0 (outAt m c))

theorem body_sound (c : Dev nD) : bodyPre m ρ c ⊢ wpK c (.op .deviceId fun d => body qM k1M v1M oM kM lM qsM (Memref.isWhole_whole _) cc0_scratch3 cc0_scratch4
      cc0_scratch5 cc0_scratch6 cc0_scratch7 cc0_scratch8 ⟨k0_dev1 d, k0_dev1_lt d⟩ ⟨k0_dev2 d, k0_dev2_lt d⟩ ⟨k0_dev3 d, k0_dev3_lt d⟩ (rowsW d) (rowsW_le d))
    (fun _ => bodyPost m ρ c) := by
  rw [wpK, wp_deviceId]
  unfold bodyPre Φ₀ start
  iintro ⟨⟨⟨⟨%Kn, #HR⟩, #HL, Hr⟩, Hs⟩, Ho, ⟨%d0, %g0, %hg0, HQ⟩, ⟨%d1, %g1, %hg1, HK⟩, ⟨%d2, %g2, %hg2, HV⟩, ⟨%d3, %g3, %hg3, Hout⟩⟩
  have h0 : g0 = qX m c := by rw [hg0]; unfold Dat.before; rw [if_pos (fetch_w 0 (by decide) t₀)]; rfl
  have h1 : g1 = kX m c := by rw [hg1]; unfold Dat.before; rw [if_pos (fetch_w 1 (by decide) t₀)]; rfl
  have h2 : g2 = vX m c := by rw [hg2]; unfold Dat.before; rw [if_pos (fetch_w 2 (by decide) t₀)]; rfl
  subst h0 h1 h2
  unfold Dat.owesAt Pipeline.owesWithin
  icases Ho with ⟨%W, %hW, HO⟩
  rw [show (dats m ρ 0 c).owed t₀.castSucc = owe c items from rfl]
  iapply (body_run m Kn c (fun _ => bodyPost m ρ c) _ _ _ (dev1_eq c) (dev2_eq c) (dev3_eq c)) $$ [Hr Hs HQ HK HV Hout HO]
  · isplitr; · iexact HR
    isplitr; · iexact HL
    isplitl [Hr]; · iexact Hr
    isplitl [Hs]; · iexact Hs
    isplitl [HQ HK HV]
    · unfold opnds
      isplitl [HQ]; · iexact HQ
      isplitl [HK]; · iexact HK
      iexact HV
    isplitl [Hout]; · iexists g3; iexact Hout
    unfold ow; iexists W; iexact HO
  unfold opnds ow
  iintro ⟨Hz, Hb, Hs, ⟨HQ, HK, HV⟩, Hout, ⟨%W', HO⟩⟩
  rw [wpK, wp_ret]; imodintro
  unfold bodyPost Φ₁ Dat.owesAt Pipeline.owesWithin
  rw [show (dats m ρ 0 c).owed t₀.succ = owe c [] from rfl]
  isplitl [Hz Hb Hs]
  · isplitl [Hz]; · iexact Hz
    isplitl [Hb]; · iexact Hb
    iexact Hs
  isplitl [HO]
  · iexists W'
    isplitr; · ipureintro; exact fun _ _ => Or.inl trivial
    iexact HO
  isplitl [HQ]
  · iexists _; isplitr; · (ipureintro; rfl)
    iexact HQ
  isplitl [HK]
  · iexists _; isplitr; · (ipureintro; rfl)
    iexact HK
  isplitl [HV]
  · iexists _; isplitr; · (ipureintro; rfl)
    iexact HV
  iexists _; isplitr; · (ipureintro; rfl)
  iexact Hout

set_option maxRecDepth 65536 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wpK c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 cc0_scratch7 cc0_scratch8) (fun _ => bodyPost m ρ c)
  rw [body_eq]
  exact body_sound m ρ c

/-! ## The cells and the tokens at launch -/

theorem ownSemFacts : Pipeline.OwnSemFacts cfg0.spec xsem := by decide +kernel

theorem share_eq (c : Dev nD) (w : Fin cfg0.W) : (dats m ρ 0 c).share w = fullShare := by unfold Dat.share; split <;> rfl

abbrev cellAt (ck : Dev nD × CI) : GSem nD τ sig := kcell ck.1 ck.2
theorem cellAt_injective : Function.Injective cellAt := by
  rintro ⟨c, k⟩ ⟨c', k'⟩ h
  have h1 : c = c' := congrArg (fun g : GSem nD τ sig => g.1.1) h
  have h2 : k = k' := csem_injective (congrArg Prod.snd h)
  rw [h1, h2]
def exCells : Finset (GSem nD τ sig) := Finset.univ.map ⟨cellAt, cellAt_injective⟩

/-- The duties of a device's cells: the barrier's three, each transfer cell's one. -/
abbrev DI : Type := Fin 3 ⊕ XI
abbrev tokOf (cj : Dev nD × DI) : GSem nD τ sig × ℕ × Fin 3 := match cj.2 with
  | .inl d => (barCell cj.1, 0, d)
  | .inr k => (kcell cj.1 (some k), 0, 0)
theorem tokOf_injective : Function.Injective tokOf := by
  rintro ⟨c, j⟩ ⟨c', j'⟩ h
  match j, j', h with
  | .inl d, .inl d', h =>
    have h1 : (c, none) = (c', none) := cellAt_injective (congrArg Prod.fst h)
    have h2 : d = d' := congrArg (fun x : GSem nD τ sig × ℕ × Fin 3 => x.2.2) h
    rw [(Prod.mk.inj h1).1, h2]
  | .inl d, .inr k, h =>
    have h1 : (c, none) = (c', some k) := cellAt_injective (congrArg Prod.fst h)
    exact absurd (Prod.mk.inj h1).2 (by simp)
  | .inr k, .inl d, h =>
    have h1 : (c, some k) = (c', none) := cellAt_injective (congrArg Prod.fst h)
    exact absurd (Prod.mk.inj h1).2 (by simp)
  | .inr k, .inr k', h =>
    have h1 : (c, some k) = (c', some k') := cellAt_injective (congrArg Prod.fst h)
    obtain ⟨e1, e2⟩ := Prod.mk.inj h1
    rw [e1, Option.some.inj e2]
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- A device's cells' duty tokens. -/
def toks (c : Dev nD) : sProp 𝕄 :=
  iprop((bigSep Finset.univ fun d : Fin 3 => dutyTok ER (barCell c) 0 d) ∗ bigSep Finset.univ fun k : XI => dutyTok ER (kcell c (some k)) 0 0)

def G (c : Dev nD) : sProp 𝕄 :=
  iprop((bigSep Finset.univ fun k : CI => roundState ER (Rd m) (kcell c k) 0)
    ∗ (bigSep Finset.univ fun k : CI => iprop(atPos ER (kcell c k) 0 ∅ 0 ∗ reached ER (kcell c k) 0)) ∗ toks c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (kcell c k) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A conjunction over a device's cells: the barrier's, and the transfers'. -/
theorem sep_CI (Φ : CI → sProp 𝕄) : bigSep Finset.univ Φ = iprop(Φ none ∗ bigSep Finset.univ fun k : XI => Φ (some k)) := by
  have e : (Finset.univ.erase none : Finset CI) = Finset.univ.map Function.Embedding.some := by
    ext k; cases k <;> simp
  rw [bigSep_univ_at Φ none, e, bigSep_map]
  rfl

omit [FloatOps F] in
theorem ownSems0_eq (c : Dev nD) : (Pipeline.ownSems0 (Ix := Unit) (Name := ℕ) (U := UU) (Lvl := ℕ) (Val := Elt F) (τ := τ) xsem c : sProp 𝕄) = zeros c := by
  have h := sep_cells (F := F) (fun k => semVal (kcell c (some k)) 0)
  exact h

omit [FloatOps F] in
theorem unscopedSems0_eq (c : Dev nD) : (unscopedSems0 c : sProp 𝕄) = semVal (barCell c) 0 := by
  unfold unscopedSems0; rw [bigSep_eq_bigSepL_of_eq [SemLoc.reg barrier0] (by decide) (by decide)]; rfl

omit [FloatOps F] in
theorem sems0_eq (c : Dev nD) :
    iprop(Pipeline.ownSems0 (Ix := Unit) (Name := ℕ) (U := UU) (Lvl := ℕ) (Val := Elt F) (τ := τ) xsem c ∗ unscopedSems0 c)
      ⊢ (bigSep Finset.univ fun k : CI => semVal (kcell c k) 0 : sProp 𝕄) := by
  rw [unscopedSems0_eq, sep_CI]
  iintro ⟨H, HB⟩
  isplitl [HB]; · iexact HB
  unfold Pipeline.ownSems0; iexact H

theorem core_alloc (c : Dev nD) :
    iprop(Pipeline.ownSems0 (Ix := Unit) (Name := ℕ) (U := UU) (Lvl := ℕ) (Val := Elt F) (τ := τ) xsem c ∗ unscopedSems0 c ∗ G m c)
      ⊢ |={Set.univ}=> iprop((bigSep Finset.univ fun k => iprop(∃ κ : ℕ, cellInv ER (Rd m) κ (kcell c k)))
          ∗ (bigSep Finset.univ fun k => iprop(atPos ER (kcell c k) 0 ∅ 0 ∗ reached ER (kcell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell c k) 0) ∗ bigSep Finset.univ fun k : CI => roundState ER (Rd m) (kcell c k) 0)
      ⊢ (|={Set.univ}=> bigSep Finset.univ fun k => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

omit [FloatOps F] in
/-- A conjunction over the devices, each item's dealt across its direction. -/
theorem deal {I : Type} [Fintype I] [DecidableEq I] (f : I → Fin 3) (Φ : Dev nD → I → sProp 𝕄) :
    (bigSep Finset.univ fun c : Dev nD => bigSep Finset.univ fun i : I => Φ c i)
      = bigSep Finset.univ fun c : Dev nD => bigSep Finset.univ fun i : I => Φ (nbd (f i) c) i := by
  rw [← bigSep_univ_prod (fun ci : Dev nD × I => Φ ci.1 ci.2),
    bigSep_univ_equiv (⟨fun ci => (nbd (f ci.2) ci.1, ci.2), fun ci => (nbd (f ci.2) ci.1, ci.2),
      fun ci => Prod.ext (nbd_nbd _ _) rfl, fun ci => Prod.ext (nbd_nbd _ _) rfl⟩ : Dev nD × I ≃ Dev nD × I), bigSep_univ_prod]
  rfl

/-- The tokens of the duties a device pays. -/
def payToks (c : Dev nD) : sProp 𝕄 :=
  iprop((bigSep Finset.univ fun d : Fin 3 => dutyTok ER (barCell (nbd d c)) 0 d)
    ∗ (bigSep Finset.univ fun p : Fin 8 => iprop(dutyTok ER (sCell c 0 p) 0 0 ∗ dutyTok ER (sCell c 1 p) 0 0))
    ∗ bigSep Finset.univ fun p : Fin 8 => iprop(dutyTok ER (rCell (nb p c) 0 p) 0 0 ∗ dutyTok ER (rCell (nb p c) 1 p) 0 0))

omit [FloatOps F] in
theorem toks_around : (bigSep Finset.univ fun c : Dev nD => (toks c : sProp 𝕄)) = bigSep Finset.univ fun c : Dev nD => payToks c := by
  have e (c : Dev nD) : (toks c : sProp 𝕄) = iprop((bigSep Finset.univ fun d : Fin 3 => dutyTok ER (barCell c) 0 d)
    ∗ (bigSep Finset.univ fun p : Fin 8 => iprop(dutyTok ER (sCell c 0 p) 0 0 ∗ dutyTok ER (sCell c 1 p) 0 0))
    ∗ bigSep Finset.univ fun p : Fin 8 => iprop(dutyTok ER (rCell c 0 p) 0 0 ∗ dutyTok ER (rCell c 1 p) 0 0)) := by
    unfold toks; rw [sep_cells (F := F) (fun k => dutyTok ER (kcell c (some k)) 0 0)]
  rw [bigSep_congr fun c _ => e c]
  unfold payToks
  rw [bigSep_sep', bigSep_sep', bigSep_sep', bigSep_sep', deal id (fun c d => (dutyTok ER (barCell c) 0 d : sProp 𝕄)),
    deal dirOf (fun c p => (iprop(dutyTok ER (rCell c 0 p) 0 0 ∗ dutyTok ER (rCell c 1 p) 0 0) : sProp 𝕄))]
  rfl

/-- What a device holds of the exchange, apart from its credit. -/
def linear (c : Dev nD) : sProp 𝕄 := iprop((bigSep Finset.univ fun k : CI => atPos ER (kcell c k) 0 ∅ 0) ∗ payToks c)
def G' (c : Dev nD) : sProp 𝕄 := iprop((∃ Kn, records m Kn) ∗ linear c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell c k)))
          ∗ (bigSep Finset.univ fun k => iprop(atPos ER (kcell c k) 0 ∅ 0 ∗ reached ER (kcell c k) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck.1 ck.2))),
    bigSep_congr (s := Finset.univ) (fun (c : Dev nD) _ => bigSep_sep' Finset.univ (fun k : CI => (atPos ER (kcell c k) 0 ∅ 0 : sProp 𝕄)) (fun k => reached ER (kcell c k) 0)),
    bigSep_sep', ← bigSep_univ_prod (fun ck : Dev nD × CI => (reached ER (kcell ck.1 ck.2) 0 : sProp 𝕄))]
  iintro ⟨HI, ⟨Hat, #HR⟩, Htok⟩
  ihave HK := (BI.bigSep_exists_pi Finset.univ (fun (ck : Dev nD × CI) (κ : ℕ) => (cellInv ER (Rd m) κ (kcell ck.1 ck.2) : sProp 𝕄))) $$ HI
  icases HK with ⟨%Kn, #HI⟩
  ihave Htk := (Entails.of_eq (toks_around (F := F))) $$ Htok
  iapply (bigSep_with_persistent (R := records m Kn) (Φ := linear) fun c _ => (show iprop(records m Kn ∗ linear c) ⊢ G' m c from by
    unfold G'
    iintro ⟨#HR, H⟩
    isplitr
    · iexists Kn; iexact HR
    iexact H))
  isplitr
  · unfold records; isplitl; · iexact HI
    iexact HR
  · unfold linear
    iapply (Entails.of_eq (bigSep_sep' Finset.univ (fun c : Dev nD => bigSep Finset.univ fun k : CI => (atPos ER (kcell c k) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) xsem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owe_sum (c : Dev nD) (k : CI) : ∀ l : List Item,
    ∑ d : Dev nD, owe d l (kcell c k) () = (l.map fun x => if k = itCI x then itAmt x else 0).sum
  | [] => by
    rw [List.map_nil, List.sum_nil]
    exact Finset.sum_eq_zero fun d _ => rfl
  | x :: xs => by
    rw [List.map_cons, List.sum_cons, ← owe_sum c k xs, Nat.add_comm]
    have h (d : Dev nD) : owe d (x :: xs) (kcell c k) () = owe d xs (kcell c k) () + (if d = nbd (itDir x) c then (if k = itCI x then itAmt x else 0) else 0) := by
      rw [owe_cons, Pi.add_apply, Finsupp.add_apply, tallyAt_apply]
      congr 1
      by_cases hd : d = nbd (itDir x) c
      · subst hd
        rw [if_pos rfl]
        by_cases hk : k = itCI x
        · rw [if_pos hk, if_pos]
          refine ⟨?_, rfl⟩
          unfold itCell; rw [nbd_nbd, hk]
        · rw [if_neg hk, if_neg]
          rintro ⟨h, -⟩
          have e : (c, k) = (_, itCI x) := cellAt_injective h
          exact hk (Prod.mk.inj e).2
      · rw [if_neg hd, if_neg]
        rintro ⟨h, -⟩
        have e : (c, k) = (nbd (itDir x) d, itCI x) := cellAt_injective h
        exact hd (by rw [(Prod.mk.inj e).1, nbd_nbd])
    rw [Finset.sum_congr rfl fun d _ => h d, Finset.sum_add_distrib, Finset.sum_ite_eq' Finset.univ, if_pos (Finset.mem_univ _)]

theorem sum_bar : (items.map fun x => if (none : CI) = itCI x then itAmt x else 0).sum = 3 := by
  simp [items, sends, itCI, itAmt]
theorem sum_recv (t : Fin 2) (p : Fin 8) : (items.map fun x => if (some (true, t, p) : CI) = itCI x then itAmt x else 0).sum = N := by
  have h : ∀ (n : ℕ) (t : Fin 2) (p : Fin 8), (items.map fun x => if (some (true, t, p) : CI) = itCI x then (match x with | .inl _ => 1 | .inr _ => n) else 0).sum = n := by
    intro n t p
    fin_cases t <;> fin_cases p <;> simp [items, sends, itCI]
  refine Eq.trans ?_ (h N t p)
  congr 1

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  exact (owe_sum c none items).trans sum_bar

theorem launch_recv (c : Dev nD) (t : Fin 2) (p : Fin 8) :
    tallyOn (rCell c t p) (launchCredit (Pipeline.owing O₀) 0 (rCell c t p)) = (tallyAt (rCell c t p) () N : CellTallies nD τ sig Unit) := by
  unfold tallyAt; refine congrArg _ (Finsupp.ext fun u => ?_); cases u
  rw [Pipeline.launchCredit_owing, Finsupp.single_eq_same]
  exact (owe_sum c (some (true, t, p)) items).trans (sum_recv t p)

omit [FloatOps F] in
theorem creds (c : Dev nD) :
    (Pipeline.launchCred O₀ c : sProp 𝕄) ⊢ iprop(cred (tallyAt (barCell c) () 3)
      ∗ bigSep Finset.univ fun p : Fin 8 => iprop(cred (tallyAt (rCell c 0 p) () N) ∗ cred (tallyAt (rCell c 1 p) () N))) := by
  unfold Pipeline.launchCred
  refine (bigSep_subset (Finset.subset_univ (Finset.univ.map ⟨csem, csem_injective⟩))).trans ?_
  rw [bigSep_map, sep_CI]
  refine BIClass.sep_mono (Entails.of_eq (congrArg cred (launch_bar c))) ?_
  rw [sep_cells (F := F)]
  refine Laws.sep_elim_right.trans (bigSep_mono fun p _ => ?_)
  exact BIClass.sep_mono (Entails.of_eq (congrArg cred (launch_recv c 0 p))) (Entails.of_eq (congrArg cred (launch_recv c 1 p)))

/-! ## The theorem's side conditions -/

omit [FloatOps F] in
theorem regroup6 (A₀ A₁ B₀ B₁ C₀ C₁ : sProp 𝕄) : iprop((A₀ ∗ A₁) ∗ (B₀ ∗ B₁) ∗ (C₀ ∗ C₁)) ⊢ iprop((A₀ ∗ B₀ ∗ C₀) ∗ (A₁ ∗ B₁ ∗ C₁)) := by
  iintro ⟨⟨H1, H2⟩, ⟨H3, H4⟩, H5, H6⟩
  isplitl [H1 H3 H5]
  · isplitl [H1]; · iexact H1
    isplitl [H3]; · iexact H3
    iexact H5
  isplitl [H2]; · iexact H2
  isplitl [H4]; · iexact H4
  iexact H6
omit [FloatOps F] in
theorem regroup4 (A₀ A₁ B₀ B₁ : sProp 𝕄) : iprop((A₀ ∗ A₁) ∗ (B₀ ∗ B₁)) ⊢ iprop((A₀ ∗ B₀) ∗ (A₁ ∗ B₁)) := by
  iintro ⟨⟨H1, H2⟩, H3, H4⟩
  isplitl [H1 H3]
  · isplitl [H1]; · iexact H1
    iexact H3
  isplitl [H2]; · iexact H2
  iexact H4

omit [FloatOps F] in
theorem rights_intro (c : Dev nD) : iprop(Pipeline.launchCred O₀ c ∗ linear c) ⊢ (rights c : sProp 𝕄) := by
  unfold linear payToks rights
  rw [sep_CI, sep_cells (F := F) (fun k => atPos ER (kcell c (some k)) 0 ∅ 0)]
  iintro ⟨Hc, ⟨Hb, Has, Har⟩, Hd, Hs, Hr⟩
  ihave Hc := (creds (F := F) c) $$ Hc
  icases Hc with ⟨Hcb, Hcr⟩
  isplitl [Hb]; · iexact Hb
  isplitl [Hcb]; · iexact Hcb
  isplitl [Hd]
  · iapply (show (bigSep Finset.univ fun d : Fin 3 => (dutyTok ER (barCell (nbd d c)) 0 d : sProp 𝕄))
        ⊢ iprop(dutyTok ER (barCell (nbd 0 c)) 0 0 ∗ dutyTok ER (barCell (nbd 1 c)) 0 1 ∗ dutyTok ER (barCell (nbd 2 c)) 0 2)
        from Entails.of_eq (bigSep_univ_eq_bigSepL [0, 1, 2] (by decide) (by decide) _))
    iexact Hd
  isplitl [Has Hs Hr]
  · iapply (show iprop((bigSep Finset.univ fun p : Fin 8 => iprop(atPos ER (sCell c 0 p) 0 ∅ 0 ∗ atPos ER (sCell c 1 p) 0 ∅ 0))
        ∗ (bigSep Finset.univ fun p : Fin 8 => iprop(dutyTok ER (sCell c 0 p) 0 0 ∗ dutyTok ER (sCell c 1 p) 0 0))
        ∗ bigSep Finset.univ fun p : Fin 8 => iprop(dutyTok ER (rCell (nb p c) 0 p) 0 0 ∗ dutyTok ER (rCell (nb p c) 1 p) 0 0))
      ⊢ (bigSep Finset.univ fun p : Fin 8 => Tk c p : sProp 𝕄) from by
        rw [← bigSep_sep', ← bigSep_sep']
        refine bigSep_mono fun p _ => ?_
        exact regroup6 _ _ _ _ _ _)
    isplitl [Has]; · iexact Has
    isplitl [Hs]; · iexact Hs
    iexact Hr
  · iapply (show iprop((bigSep Finset.univ fun p : Fin 8 => iprop(atPos ER (rCell c 0 p) 0 ∅ 0 ∗ atPos ER (rCell c 1 p) 0 ∅ 0))
        ∗ bigSep Finset.univ fun p : Fin 8 => iprop(cred (tallyAt (rCell c 0 p) () N) ∗ cred (tallyAt (rCell c 1 p) () N)))
      ⊢ (bigSep Finset.univ fun p : Fin 8 => Rk c p : sProp 𝕄) from by
        rw [← bigSep_sep']
        refine bigSep_mono fun p _ => ?_
        exact regroup4 _ _ _ _)
    isplitl [Har]; · iexact Har
    iexact Hcr

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, Hlev, Hcr, -, HR, Hl⟩
  imodintro
  isplitl
  · isplitl [HR]; · iexact HR
    isplitl [Hlev]; · iexact Hlev
    iapply (rights_intro (F := F) c)
    isplitl [Hcr]; · iexact Hcr
    iexact Hl
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 xsem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hz, Hb, Hr⟩
  isplitl [Hb]; · iexact Hb
  isplitl [Hz]; · iexact Hz
  iexact Hr

theorem lev_stage : ∀ (w : Fin cfg0.W) (s : Fin ((cfg0.win w).nbuf)), deco (.dma ((cfg0.win w).sem s)) = none := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ items (by rw [lev_stage w s]; decide)
    · exact mayWait c _ [] (by intro x hx; cases hx)

/-! ## The run -/

def finalA (c : Dev nD) (w : Fin cfg0.W) : Buf (Elt F) ((cfg0.win w).arr.view.loc (c : Thread nD τ)) := (dats m ρ 0 c).arrAt w cfg0.N

set_option maxRecDepth 8000 in
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held. -/
theorem finalA_in (c : Dev nD) (w : Fin 4) (hw : w.val < 3) : finalA m ρ c w = (s₀ m ρ).mem ((cfg0.win w).arr.view.loc (c : Thread nD τ)) := by
  match w with
  | 0 => exact (dats (F := F) m ρ 0 c).arrAt_in (0 : Fin 4) rfl _
  | 1 => exact (dats (F := F) m ρ 0 c).arrAt_in (1 : Fin 4) rfl _
  | 2 => exact (dats (F := F) m ρ 0 c).arrAt_in (2 : Fin 4) rfl _
  | 3 => exact absurd hw (by decide)

end Cert.Attn

end
-- ==== Proof.Frames.lean ====
/- The frames: each program's run read at the operand arrays and at the counters. -/
module

public import proofs.«01_k».proof.Proof.Gen.Pre_finite_KernelIdeal
public import proofs.«01_k».proof.Proof.Gen.Pre_finite_ReferenceIdeal
public import proofs.«01_k».proof.Defs
public import proofs.«01_k».proof.Proof.MeshRun
public import proofs.«01_k».proof.Proof.Gen.Kernel
public import proofs.«01_k».proof.Proof.Gen.ReferenceIdeal.Run

@[expose] public section

noncomputable section

namespace Cert.Attn

open Idealize.ShloMosaic Idealize.SL.Sem

/-- The run of the kernel's text, read at the operand arrays, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono
    (fun _ h => ⟨fun c => ⟨(h.1 c (0 : Fin 4)).trans (finalA_in m ρ c (0 : Fin 4) (by decide)),
      (h.1 c (1 : Fin 4)).trans (finalA_in m ρ c (1 : Fin 4) (by decide)),
      (h.1 c (2 : Fin 4)).trans (finalA_in m ρ c (2 : Fin 4) (by decide))⟩, h.2⟩)
    (run_main m ρ)

/-- The kernel over the extended reals. -/
theorem frame_pi : Cert.quiescent_KernelIdeal (hKernelIdeal := Cert.KernelIdeal.Gen.facts) := fun m ρ _ => frame_any m ρ

section Words

attribute [local instance] Cert.Kernel.Gen.facts Cert.KernelIdeal.Gen.facts

/-- The two printings of the kernel have the same bodies. -/
theorem bodies_eq (F : FTy → Type) [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl

theorem defs_eq (F : FTy → Type) [FloatOps F] : Cert.Kernel.defs (F := F) = Cert.KernelIdeal.defs (F := F) :=
  congrArg (Pipeline.defs Cert.KernelIdeal.pcfgs) (bodies_eq F)

end Words

/-- The kernel at the words: the same text under another name. -/
theorem frame_p : Cert.quiescent_Kernel (hKernel := Cert.Kernel.Gen.facts) := fun m ρ _ => by
  rw [defs_eq]; exact frame_any (F := Bits) m ρ

/-- The reference: it has no counter. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! The same under the precondition, which the runs do not need. -/

theorem frame_pi_pre : Cert.quiescent_KernelIdeal_pre_finite_KernelIdeal (hKernelIdeal := Cert.KernelIdeal.Gen.facts)
    (hPre_finite_KernelIdeal := Cert.Pre_finite_KernelIdeal.Gen.facts) := fun m ρ _ => frame_any m ρ

theorem frame_ri_pre : Cert.quiescent_ReferenceIdeal_pre_finite_ReferenceIdeal (hReferenceIdeal := Cert.ReferenceIdeal.Gen.facts)
    (hPre_finite_ReferenceIdeal := Cert.Pre_finite_ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Attn

end
-- ==== Proof.Softmax.lean ====
/- The softmax identity over the extended reals: a weighted sum divided by the sum of the weights is the sum of the
   values times the normalised weights, whatever real number is subtracted in the exponents. -/
module

public import Idealize.ShloMosaic.PureOps.Ideal
public import Idealize.ShloMosaic.PureOps.Ideal.Laws

@[expose] public section

noncomputable section

namespace Cert.Attn

open Idealize.ShloMosaic

/-- Column `d` of head `h`. -/
def col (h : Fin 16) (d : Fin 128) : Fin 2048 := ⟨128 * h.val + d.val, by omega⟩

/-- The scale, as a real. -/
theorem scale_real : ∃ c : ℝ, 0 ≤ c ∧ Ideal.ofBits .f32 0x3DB504F3#32 = (c : EReal) := by
  refine ⟨_, ?_, by simp [Ideal.ofBits, Ideal.ieee]; rfl⟩
  positivity

theorem minus_infinity : Ideal.ofBits .f32 0xFF800000#32 = ⊥ := by simp [Ideal.ofBits, Ideal.ieee]
theorem infinity : Ideal.ofBits .f32 0x7F800000#32 = ⊤ := by simp [Ideal.ofBits, Ideal.ieee]

/-- A real factor that is not negative goes into a sum. -/
theorem coe_mul_sum {ι : Type} [Fintype ι] (c : ℝ) (hc : 0 ≤ c) (f : ι → EReal) : (∑ i, f i) * (c : EReal) = ∑ i, f i * (c : EReal) := by
  classical
  refine Finset.induction_on (Finset.univ : Finset ι) (by simp) fun a s ha ih => ?_
  rw [Finset.sum_insert ha, Finset.sum_insert ha, EReal.right_distrib_of_nonneg_of_ne_top (EReal.coe_nonneg.mpr hc) (EReal.coe_ne_top c), ih]

theorem coe_sum' {ι : Type} [Fintype ι] (f : ι → ℝ) : (∑ i, (f i : EReal)) = ((∑ i, f i : ℝ) : EReal) := by
  classical
  refine Finset.induction_on (Finset.univ : Finset ι) (by simp) fun a s ha ih => ?_
  rw [Finset.sum_insert ha, Finset.sum_insert ha, ih, EReal.coe_add]

/-- The identity, the scores real. -/
theorem softmax_eq {ι : Type} [Fintype ι] [Nonempty ι] (a : ι → ℝ) (m : ℝ) (v : ι → EReal) :
    Ideal.div (∑ i, Ideal.exp (a i : EReal) * v i) (∑ i, Ideal.exp (a i : EReal))
      = ∑ i, v i * Ideal.div (Ideal.exp ((a i : EReal) - (m : EReal))) (0 + ∑ j, Ideal.exp ((a j : EReal) - (m : EReal))) := by
  have e1 : ∀ i, Ideal.exp (a i : EReal) = ((Real.exp (a i) : ℝ) : EReal) := fun i => Ideal.exp_coe _
  have e2 : ∀ i, Ideal.exp ((a i : EReal) - (m : EReal)) = ((Real.exp (a i - m) : ℝ) : EReal) := fun i => by
    rw [← EReal.coe_sub, Ideal.exp_coe]
  simp only [e1, e2, coe_sum', zero_add]
  have p1 : 0 < ∑ i, Real.exp (a i) := Finset.sum_pos (fun i _ => Real.exp_pos _) Finset.univ_nonempty
  have p2 : 0 < ∑ i, Real.exp (a i - m) := Finset.sum_pos (fun i _ => Real.exp_pos _) Finset.univ_nonempty
  rw [Ideal.div_coe p1.ne', coe_mul_sum _ (by positivity)]
  refine Finset.sum_congr rfl fun i _ => ?_
  rw [Ideal.div_coe p2.ne', mul_comm ((Real.exp (a i) : ℝ) : EReal), mul_assoc, ← EReal.coe_mul, ← EReal.coe_mul]
  congr 2
  have : ∑ i, Real.exp (a i - m) = (∑ i, Real.exp (a i)) * Real.exp (-m) := by
    rw [Finset.sum_mul]; exact Finset.sum_congr rfl fun i _ => by rw [← Real.exp_add, sub_eq_add_neg]
  rw [this, sub_eq_add_neg, Real.exp_add]
  have := Real.exp_pos (-m)
  field_simp

/-- The largest of finitely many reals, folded from minus infinity, is a real. -/
theorem fold_max_real {ι : Type} [Fintype ι] [Nonempty ι] (a : ι → ℝ) :
    ∃ m : ℝ, (Finset.univ : Finset ι).fold max (⊥ : EReal) (fun i => (a i : EReal)) = (m : EReal) := by
  classical
  have key : ∀ s : Finset ι, s.Nonempty → ∃ m : ℝ, s.fold max (⊥ : EReal) (fun i => (a i : EReal)) = (m : EReal) := by
    intro s
    refine Finset.induction_on s (by simp) fun b s hb ih _ => ?_
    rw [Finset.fold_insert hb]
    rcases s.eq_empty_or_nonempty with rfl | hs
    · exact ⟨a b, by simp⟩
    · obtain ⟨m, hm⟩ := ih hs
      exact ⟨max (a b) m, by rw [hm]; exact (EReal.coe_strictMono.monotone.map_max).symm⟩
  exact key _ Finset.univ_nonempty

end Cert.Attn

end
-- ==== Proof.Values.lean ====
/- The accumulators at the ideal values, read at an index: the exponential of a score, the row sums and the
   weighted values of the local pass, of a landed chunk, and the last division. -/
module

public import proofs.«01_k».proof.Proof.BodyRun
public import proofs.«01_k».proof.Proof.Softmax
public import Idealize.ShloMosaic.Lib.Pointwise

@[expose] public section

noncomputable section

namespace Cert.Attn

open Cert.KernelIdeal Cert.KernelIdeal.Gen
open Idealize.ShloMosaic Idealize.ShloMosaic.TcCoe Idealize.SL.Sem

/-- The exponential of the score of query row `r` against key row `k` in head `h`. -/
def ex {M N : ℕ} (q : (⟨2, ![M, 2048]⟩ : Shape).Idx → EReal) (k : (⟨2, ![N, 2048]⟩ : Shape).Idx → EReal) (h : Fin 16) (r : Fin M) (i : Fin N) : EReal :=
  Ideal.exp (∑ d : Fin 128, q (ix2 r (col h d)) * k (ix2 i (col h d)))

theorem pL_apply (k : FVec Ideal S1024x128 .bf16) (q : Vec Ideal S256x128 .bf16) (r : Fin 256) (i : Fin 1024) :
    pL (F := Ideal) k q (ix2 r i) = Ideal.exp (∑ d : Fin 128, q (ix2 r d) * k (ix2 i d)) := by
  pointwise [pL]

theorem lL_apply (k : FVec Ideal S1024x128 .bf16) (q : Vec Ideal S256x128 .bf16) (r : Fin 256) :
    lL (F := Ideal) k q (ix2 r 0) = ∑ i : Fin 1024, pL (F := Ideal) k q (ix2 r i) := by
  pointwise [lL]

theorem oL_apply (k v : FVec Ideal S1024x128 .bf16) (q : Vec Ideal S256x128 .bf16) (r : Fin 256) (d : Fin 128) :
    oL (F := Ideal) k v q (ix2 r d) = ∑ i : Fin 1024, pL (F := Ideal) k q (ix2 r i) * v (ix2 i d) := by
  pointwise [oL]

theorem pC_apply (k : Vec Ideal S1x128x128 .f32) (q : Vec Ideal S1024x128 .bf16) (r : Fin 1024) (i : Fin 128) :
    pC (F := Ideal) k q (ix2 r i) = Ideal.exp (∑ d : Fin 128, q (ix2 r d) * k (ix3 0 i d)) := by
  pointwise [pC, chB]

theorem lC_apply (k : Vec Ideal S1x128x128 .f32) (q : Vec Ideal S1024x128 .bf16) (l : Vec Ideal S1024x1 .f32) (r : Fin 1024) :
    lC (F := Ideal) k q l (ix2 r 0) = l (ix2 r 0) + ∑ i : Fin 128, pC (F := Ideal) k q (ix2 r i) := by
  pointwise [lC]

theorem oC_apply (k v : Vec Ideal S1x128x128 .f32) (q : Vec Ideal S1024x128 .bf16) (o : Vec Ideal S1024x128 .f32) (r : Fin 1024) (d : Fin 128) :
    oC (F := Ideal) k v q o (ix2 r d) = o (ix2 r d) + ∑ i : Fin 128, pC (F := Ideal) k q (ix2 r i) * v (ix3 0 i d) := by
  pointwise [oC, chB]

theorem oF_apply (k v : Vec Ideal S1x128x128 .f32) (q : Vec Ideal S1024x128 .bf16) (l : Vec Ideal S1024x1 .f32) (o : Vec Ideal S1024x128 .f32) (r : Fin 1024) (d : Fin 128) :
    oF (F := Ideal) k v q l o (ix2 r d) = Ideal.div (oC (F := Ideal) k v q o (ix2 r d)) (lC (F := Ideal) k q l (ix2 r 0)) := by
  pointwise [oF]

theorem qsV_apply (v : Vec Ideal S1024x2048 .f32) (r : Fin 1024) (x : Fin 2048) :
    qsV (F := Ideal) v (ix2 r x) = v (ix2 r x) * Ideal.ofBits .f32 0x3DB504F3#32 := by
  pointwise [qsV]

theorem locB_apply (v : Vec Ideal S1024x128 .f32) (r : Fin 1024) (x : Fin 128) :
    locB (F := Ideal) v (ix2 r x) = v (ix2 r x) := by
  pointwise [locB]

/-! ## Parts of an array, at an index -/

theorem hd_apply {e : EltTy} (f : S1024x2048.Idx → Elt Ideal e) (h : Fin 16) (r : Fin 1024) (d : Fin 128) :
    hd f h (ix2 r d) = f (ix2 r (col h d)) := by
  unfold hd; refine congrArg f (funext fun a => Fin.ext ?_)
  match a with
  | ⟨0, _⟩ => show 0 + 1 * r.val = r.val; omega
  | ⟨1, _⟩ => show 128 * h.val + 1 * d.val = 128 * h.val + d.val; omega

theorem qb_apply {e : EltTy} (f : S1024x2048.Idx → Elt Ideal e) (i : Fin 4) (h : Fin 16) (r : Fin 256) (d : Fin 128) :
    qb f i h (ix2 r d) = f (ix2 ⟨256 * i.val + r.val, by omega⟩ (col h d)) := by
  unfold qb; refine congrArg f (funext fun a => Fin.ext ?_)
  match a with
  | ⟨0, _⟩ => show 256 * i.val + 1 * r.val = 256 * i.val + r.val; omega
  | ⟨1, _⟩ => show 128 * h.val + 1 * d.val = 128 * h.val + d.val; omega

theorem kvW_apply (f : S2x1024x2048.Idx → Elt Ideal .f32) (t : Fin 2) (r : ℕ) (hr : r + 128 ≤ 1024) (h : Fin 16) (i d : Fin 128) :
    kvW f t r hr h (ix3 0 i d) = f (ix3 t ⟨r + i.val, by omega⟩ (col h d)) := by
  unfold kvW; refine congrArg f (funext fun a => Fin.ext ?_)
  match a with
  | ⟨0, _⟩ => show t.val + 1 * 0 = t.val; omega
  | ⟨1, _⟩ => show r + 1 * i.val = r + i.val; omega
  | ⟨2, _⟩ => show 128 * h.val + 1 * d.val = 128 * h.val + d.val; omega

/-! ## The accumulators -/

/-- One plane of a landing buffer. -/
def pln (g : S2x1024x2048.Idx → EReal) (t : Fin 2) : S1024x2048.Idx → EReal := fun i => g (ix3 t (i 0) (i 1))

section Acc
variable (qs : S1024x2048.Idx → EReal) (k v : S1024x2048.Idx → EReal) (g : S2x1024x2048.Idx → EReal)
  (h : Fin 16) (r : Fin 1024)

theorem pL_ex (i : Fin 1024) :
    pL (F := Ideal) (locB (hd (F := Ideal) (e := .f32) k h)) (qb (F := Ideal) (e := .bf16) qs ⟨r.val / 256, by omega⟩ h) (ix2 ⟨r.val % 256, Nat.mod_lt _ (by decide)⟩ i)
      = ex qs k h r i := by
  rw [pL_apply]; unfold ex
  refine congrArg Ideal.exp (Finset.sum_congr rfl fun d _ => ?_)
  rw [locB_apply, hd_apply, qb_apply]
  refine congrArg (fun z => qs (ix2 z (col h d)) * _) (Fin.ext ?_)
  show 256 * (r.val / 256) + r.val % 256 = r.val; omega

theorem l0_apply : l0 (F := Ideal) qs k h (ix2 r 0) = ∑ i : Fin 1024, ex qs k h r i := by
  refine (lL_apply _ _ _).trans (Finset.sum_congr rfl fun i _ => pL_ex qs k h r i)

theorem o0_apply (d : Fin 128) : o0 (F := Ideal) qs k v h (ix2 r d) = ∑ i : Fin 1024, ex qs k h r i * v (ix2 i (col h d)) := by
  refine (oL_apply _ _ _ _ _).trans (Finset.sum_congr rfl fun i _ => ?_)
  exact congrArg₂ (· * ·) (pL_ex qs k h r i) ((locB_apply _ _ _).trans (hd_apply (e := .f32) v h i d))

variable (r0 : ℕ) (hr : r0 + 128 ≤ 1024)

theorem pC_ex (i : Fin 128) :
    pC (F := Ideal) (kvW (F := Ideal) g 0 r0 hr h) (hd (F := Ideal) (e := .bf16) qs h) (ix2 r i) = ex qs (pln g 0) h r ⟨r0 + i.val, by omega⟩ := by
  rw [pC_apply]; unfold ex
  refine congrArg Ideal.exp (Finset.sum_congr rfl fun d _ => ?_)
  rw [hd_apply, kvW_apply]; rfl

theorem lNext_apply (l : Fin 16 → S1024x1.Idx → EReal) :
    lNext (F := Ideal) qs g r0 hr l h (ix2 r 0) = l h (ix2 r 0) + ∑ i : Fin 128, ex qs (pln g 0) h r ⟨r0 + i.val, by omega⟩ := by
  unfold lNext
  rw [shapeCast_self, lC_apply]
  exact congrArg _ (Finset.sum_congr rfl fun i _ => pC_ex qs g h r r0 hr i)

theorem oC_ex (o : Fin 16 → S1024x128.Idx → EReal) (d : Fin 128) :
    oC (F := Ideal) (kvW (F := Ideal) g 0 r0 hr h) (kvW (F := Ideal) g 1 r0 hr h) (hd (F := Ideal) (e := .bf16) qs h) (o h) (ix2 r d) = o h (ix2 r d)
      + ∑ i : Fin 128, ex qs (pln g 0) h r ⟨r0 + i.val, by omega⟩ * pln g 1 (ix2 ⟨r0 + i.val, by omega⟩ (col h d)) := by
  rw [oC_apply]
  refine congrArg _ (Finset.sum_congr rfl fun i _ => ?_)
  rw [pC_ex qs g h r r0 hr i, kvW_apply]; rfl

theorem oNext_apply (o : Fin 16 → S1024x128.Idx → EReal) (d : Fin 128) :
    oNext (F := Ideal) qs g r0 hr o h (ix2 r d) = o h (ix2 r d)
      + ∑ i : Fin 128, ex qs (pln g 0) h r ⟨r0 + i.val, by omega⟩ * pln g 1 (ix2 ⟨r0 + i.val, by omega⟩ (col h d)) :=
  oC_ex qs g h r r0 hr o d

theorem oLast_apply (l : Fin 16 → S1024x1.Idx → EReal) (o : Fin 16 → S1024x128.Idx → EReal) (d : Fin 128) :
    oLast (F := Ideal) qs g r0 hr l o h (ix2 r d)
      = Ideal.div (oNext (F := Ideal) qs g r0 hr o h (ix2 r d)) (lNext (F := Ideal) qs g r0 hr l h (ix2 r 0)) := by
  unfold oLast lNext
  rw [oF_apply, shapeCast_self]; rfl

end Acc

/-! ## The result at an index -/

section Result
variable (m : (ℓ : Loc nD τ sig) → Buf (Elt Ideal) ℓ) (c : Dev nD) (h : Fin 16) (r : Fin 1024)

/-- Row `i` of a device's chunk `p`. -/
def rowOf (p : Fin 8) (i : Fin 128) : Fin 1024 := ⟨rowsW c p + i.val, by have := rowsW_le c p; omega⟩

theorem lS_apply (n : ℕ) : lS (F := Ideal) m c n h (ix2 r 0) = ∑ i : Fin 1024, ex (qsX m c) (kX m c) h r i
    + ∑ p ∈ Finset.range n, ∑ i : Fin 128, ex (qsX m c) (pln (land m c) 0) h r (rowOf c (ch p) i) := by
  induction n with
  | zero => rw [Finset.sum_range_zero, add_zero]; exact l0_apply _ _ h r
  | succ n ih => rw [Finset.sum_range_succ, ← add_assoc, ← ih]; exact lNext_apply _ _ h r _ _ _

theorem oS_apply (d : Fin 128) (n : ℕ) : oS (F := Ideal) m c n h (ix2 r d)
    = ∑ i : Fin 1024, ex (qsX m c) (kX m c) h r i * vX m c (ix2 i (col h d))
      + ∑ p ∈ Finset.range n, ∑ i : Fin 128, ex (qsX m c) (pln (land m c) 0) h r (rowOf c (ch p) i) * pln (land m c) 1 (ix2 (rowOf c (ch p) i) (col h d)) := by
  induction n with
  | zero => rw [Finset.sum_range_zero, add_zero]; exact o0_apply _ _ _ h r d
  | succ n ih => rw [Finset.sum_range_succ, ← add_assoc, ← ih]; exact oNext_apply _ _ h r _ _ _ d

theorem chunks_sum (f : Fin 1024 → EReal) : ∑ p ∈ Finset.range 8, ∑ i : Fin 128, f (rowOf c (ch p) i) = ∑ j : Fin 1024, f j := by
  have e1 : ∑ p ∈ Finset.range 8, ∑ i : Fin 128, f (rowOf c (ch p) i) = ∑ p : Fin 8, ∑ i : Fin 128, f (rowOf c p i) := by
    rw [Finset.sum_range]
    exact Finset.sum_congr rfl fun p _ => by
      rw [show ch p.val = p from Fin.ext (Nat.mod_eq_of_lt p.isLt)]
  have hb : Function.Bijective (blkOf c) := ⟨fun p p' => blkOf_inj c p p', blkOf_surj c⟩
  have e2 : ∑ p : Fin 8, ∑ i : Fin 128, f (rowOf c p i) = ∑ b : Fin 8, ∑ i : Fin 128, f (finProdFinEquiv (b, i)) := by
    refine Fintype.sum_bijective _ hb _ _ fun p => Finset.sum_congr rfl fun i _ => congrArg f (Fin.ext ?_)
    show rowsW c p + i.val = i.val + 128 * (blkOf c p).val
    rw [rowsW_blk]; omega
  rw [e1, e2, ← Fintype.sum_prod_type (f := fun z : Fin 8 × Fin 128 => f (finProdFinEquiv z))]
  exact Equiv.sum_comp (finProdFinEquiv (m := 8) (n := 128)) f

/-- The result: the weighted values of both halves over the sums of the weights. -/
theorem oEnd_apply (d : Fin 128) : oEnd (F := Ideal) m c h (ix2 r d) =
    Ideal.div (∑ i : Fin 1024, ex (qsX m c) (kX m c) h r i * vX m c (ix2 i (col h d))
        + ∑ i : Fin 1024, ex (qsX m c) (pln (land m c) 0) h r i * pln (land m c) 1 (ix2 i (col h d)))
      (∑ i : Fin 1024, ex (qsX m c) (kX m c) h r i + ∑ i : Fin 1024, ex (qsX m c) (pln (land m c) 0) h r i) := by
  unfold oEnd
  rw [oLast_apply]
  have e1 := lS_apply m c h r 8
  have e2 := oS_apply m c h r d 8
  rw [chunks_sum c fun i => ex (qsX m c) (pln (land m c) 0) h r i] at e1
  rw [chunks_sum c fun i => ex (qsX m c) (pln (land m c) 0) h r i * pln (land m c) 1 (ix2 i (col h d))] at e2
  exact congrArg₂ Ideal.div e2 e1

end Result

end Cert.Attn

end
-- ==== Proof.RefValue.lean ====
/- The reference's result at the ideal values, read at an index. -/
module

public import proofs.«01_k».proof.Proof.Gen.ReferenceIdeal
public import Idealize.ShloMosaic.Lib.Pointwise
public import Idealize.ShloMosaic.Lib.KernelVsHost
public import proofs.«01_k».proof.Proof.Softmax

@[expose] public section

noncomputable section

namespace Cert.Attn.Ref

open Cert.ReferenceIdeal Cert.ReferenceIdeal.Gen
open Idealize.ShloMosaic

/-- The scaled scores. -/
def scores (Q K : FVec Ideal S2048x2048 .f32) : FVec Ideal S1x16x2048x2048 .f32 :=
  mulf (Host.dotGeneral dot_S1x2048x16x128_S1x2048x16x128_S1x16x2048x2048_3_3_1_1_02_02 none
      (shapeCast S1x2048x16x128 Q shapeCasts_S2048x2048_S1x2048x16x128) (shapeCast S1x2048x16x128 K shapeCasts_S2048x2048_S1x2048x16x128))
    (broadcastInDim S1x16x2048x2048 ![] bcast_S_S1x16x2048x2048 (constant S_ .f32 0x3DB504F3#32))
/-- A number for each query row, at each of its keys. -/
def spread (x : FVec Ideal S1x16x2048 .f32) : FVec Ideal S1x16x2048x2048 .f32 :=
  broadcastInDim S1x16x2048x2048 ![0, 1, 2, 3] bcast_S1x16x2048x1_S1x16x2048x2048_0_1_2_3
    (broadcastInDim S1x16x2048x1 ![0, 1, 2] bcast_S1x16x2048_S1x16x2048x1_0_1_2 x)
/-- Each row's largest score. -/
def rowMax (s : FVec Ideal S1x16x2048x2048 .f32) : FVec Ideal S1x16x2048 .f32 :=
  Host.reduce FloatOps.maximumf s (constant S_ .f32 0xFF800000#32) reducesTo_S1x16x2048x2048_S1x16x2048_d3 h_S_
/-- Each row's sum. -/
def rowSum (s : FVec Ideal S1x16x2048x2048 .f32) : FVec Ideal S1x16x2048 .f32 :=
  Host.reduceAdd s (constant S_ .f32 0x00000000#32) reducesTo_S1x16x2048x2048_S1x16x2048_d3 h_S_
/-- The exponentials, each row's largest score taken off. -/
def expo (s : FVec Ideal S1x16x2048x2048 .f32) : FVec Ideal S1x16x2048x2048 .f32 := Host.exp (subf s (spread (rowMax s)))
/-- The result. -/
def out (Q K V : FVec Ideal S2048x2048 .f32) : FVec Ideal S2048x2048 .f32 :=
  shapeCast S2048x2048 (transpose S1x2048x16x128 [0, 3, 1, 2]
      (Host.dotGeneral dot_S1x2048x16x128_S1x16x2048x2048_S1x16x128x2048_1_3_3_2_02_01 none
        (shapeCast S1x2048x16x128 V shapeCasts_S2048x2048_S1x2048x16x128)
        (Host.divf (expo (scores Q K)) (spread (rowSum (expo (scores Q K))))))
      transposes_S1x16x128x2048_S1x2048x16x128_0_3_1_2)
    shapeCasts_S1x2048x16x128_S2048x2048

theorem scores_apply (Q K : FVec Ideal S2048x2048 .f32) (h : Fin 16) (g k : Fin 2048) :
    scores Q K (ix4 0 h g k) = (∑ d : Fin 128, Q (ix2 g (col h d)) * K (ix2 k (col h d))) * Ideal.ofBits .f32 0x3DB504F3#32 := by
  pointwise [scores]
  have e : ∀ x : Fin 128, (⟨h.val * 128 + x.val, by omega⟩ : Fin 2048) = col h x := fun x => Fin.ext (by show h.val * 128 + x.val = 128 * h.val + x.val; omega)
  simp only [e]

theorem spread_apply (x : FVec Ideal S1x16x2048 .f32) (h : Fin 16) (g k : Fin 2048) : spread x (ix4 0 h g k) = x (ix3 0 h g) := by
  pointwise [spread]

theorem rowSum_apply (s : FVec Ideal S1x16x2048x2048 .f32) (h : Fin 16) (g : Fin 2048) :
    rowSum s (ix3 0 h g) = 0 + ∑ k : Fin 2048, s (ix4 0 h g k) := by
  pointwise [rowSum]

theorem rowMax_apply (s : FVec Ideal S1x16x2048x2048 .f32) (h : Fin 16) (g : Fin 2048) :
    rowMax s (ix3 0 h g) = (Finset.univ : Finset (Fin 2048)).fold max ⊥ fun k => s (ix4 0 h g k) := by
  pointwise [rowMax]
  rw [minus_infinity]

theorem expo_apply (s : FVec Ideal S1x16x2048x2048 .f32) (h : Fin 16) (g k : Fin 2048) :
    expo s (ix4 0 h g k) = Ideal.exp (s (ix4 0 h g k) - rowMax s (ix3 0 h g)) := by
  pointwise [expo, spread_apply]

theorem out_apply (Q K V : FVec Ideal S2048x2048 .f32) (g : Fin 2048) (h : Fin 16) (d : Fin 128) :
    out Q K V (ix2 g (col h d)) = ∑ k : Fin 2048, V (ix2 k (col h d))
      * Ideal.div (expo (scores Q K) (ix4 0 h g k)) (rowSum (expo (scores Q K)) (ix3 0 h g)) := by
  pointwise [out, spread_apply]
  have e : (⟨(col h d).val / 128, by omega⟩ : Fin 16) = h := Fin.ext (by show (128 * h.val + d.val) / 128 = h.val; omega)
  simp only [e]

/-- For finite queries and keys: the values weighted by the exponentials of the scores themselves, over the sum of
    those. -/
theorem out_finite (Q K V : FVec Ideal S2048x2048 .f32) (hQ : ∀ i, ∃ x : ℝ, Q i = (x : EReal)) (hK : ∀ i, ∃ x : ℝ, K i = (x : EReal))
    (g : Fin 2048) (h : Fin 16) (d : Fin 128) :
    out Q K V (ix2 g (col h d)) = Ideal.div
      (∑ k : Fin 2048, Ideal.exp (scores Q K (ix4 0 h g k)) * V (ix2 k (col h d)))
      (∑ k : Fin 2048, Ideal.exp (scores Q K (ix4 0 h g k))) := by
  choose q hq using hQ
  choose k hk using hK
  obtain ⟨c, hc, ec⟩ := scale_real
  have es : ∀ j : Fin 2048, scores Q K (ix4 0 h g j)
      = (((∑ d : Fin 128, q (ix2 g (col h d)) * k (ix2 j (col h d))) * c : ℝ) : EReal) := fun j => by
    rw [scores_apply, ec, EReal.coe_mul, ← coe_sum']
    simp only [hq, hk, EReal.coe_mul]
  obtain ⟨M, hM⟩ := fold_max_real fun j : Fin 2048 => (∑ d : Fin 128, q (ix2 g (col h d)) * k (ix2 j (col h d))) * c
  rw [out_apply, rowSum_apply]
  simp only [expo_apply, rowMax_apply, es, hM]
  exact (softmax_eq _ M _).symm

end Cert.Attn.Ref

end
-- ==== Proof.Algebraic.lean ====
/- The kernel's result is the reference's: each device's block of it, when the queries and keys are finite. -/
module

public import proofs.«01_k».proof.Defs
public import proofs.«01_k».proof.Proof.Gen.Pre_finite_KernelIdeal
public import proofs.«01_k».proof.Proof.Gen.ReferenceIdeal.Run
public import proofs.«01_k».proof.Proof.MeshRun
public import proofs.«01_k».proof.Proof.Values
public import proofs.«01_k».proof.Proof.RefValue

@[expose] public section

noncomputable section

namespace Cert.Attn

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The windows are the whole arrays -/

theorem qX_eq : qX (F := Ideal) m c = m ((c : Thread nD τ).loc main_arg0) :=
  Memref.read_access_unit_zero (Elt Ideal) main_arg0 (funext fun a => by fin_cases a <;> decide) (fun a => by fin_cases a <;> decide) _
theorem kX_eq : kX (F := Ideal) m c = m ((c : Thread nD τ).loc main_arg1) :=
  Memref.read_access_unit_zero (Elt Ideal) main_arg1 (funext fun a => by fin_cases a <;> decide) (fun a => by fin_cases a <;> decide) _
theorem vX_eq : vX (F := Ideal) m c = m ((c : Thread nD τ).loc main_arg2) :=
  Memref.read_access_unit_zero (Elt Ideal) main_arg2 (funext fun a => by fin_cases a <;> decide) (fun a => by fin_cases a <;> decide) _

theorem finalA_out : finalA (F := Ideal) m ρ c (3 : Fin 4) = outAt m c := by
  have e : (win0_3.blk (0 : Fin 1)).view.read (Elt Ideal) (finalA (F := Ideal) m ρ c (3 : Fin 4)) = outAt m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  refine Eq.trans (Eq.symm ?_) e
  exact Memref.read_access_unit_zero (Elt Ideal) main_v1 (funext fun a => by fin_cases a <;> decide) (fun a => by fin_cases a <;> decide) _

/-! ## The blocks of the whole arrays -/

/-- A device's coordinate on y. -/
def yOf (c : Dev nD) : ℕ := c.val / 2 % 2
theorem yOf_lt (c : Dev nD) : yOf c < 2 := Nat.mod_lt _ (by decide)

/-- Row `i` of half `y`. -/
def halfRow (y : ℕ) (hy : y < 2) (i : Fin 1024) : Fin 2048 := ⟨1024 * y + i.val, by omega⟩

/-- A device's block of a whole array. -/
abbrev blkN (v : (⟨2, ![2048, 2048]⟩ : Shape).Idx → EReal) : (⟨2, ![1024, 2048]⟩ : Shape).Idx → EReal :=
  Layout.blockN ⟨2, ![1024, 2048]⟩ ⟨2, ![2048, 2048]⟩ (Layout.meshBlock [2, 2, 2] ![[1], []] c) v

theorem blk_rows : ∀ c : Dev nD, ((Layout.meshBlock (r := 2) [2, 2, 2] ![[1], []] c) 0).val = yOf c := by decide
theorem blk_cols : ∀ c : Dev nD, ((Layout.meshBlock (r := 2) [2, 2, 2] ![[1], []] c) 1).val = 0 := by decide

theorem blkN_apply (v : (⟨2, ![2048, 2048]⟩ : Shape).Idx → EReal) (i : Fin 1024) (x : Fin 2048) :
    blkN c v (ix2 i x) = v (ix2 (halfRow (yOf c) (yOf_lt c) i) x) := by
  refine congrArg v (funext fun b => Fin.ext ?_)
  rw [Layout.TilesN.idx_val]
  match b with
  | ⟨0, _⟩ =>
    refine (congrArg (fun z => z * 1024 + i.val) (blk_rows c)).trans ?_
    show yOf c * 1024 + i.val = 1024 * yOf c + i.val
    rw [mul_comm]
  | ⟨1, _⟩ =>
    refine (congrArg (fun z => z * 2048 + x.val) (blk_cols c)).trans ?_
    show 0 * 2048 + x.val = x.val
    rw [zero_mul, zero_add]

theorem srcDev_half (i : Fin 1024) : yOf (srcDev c i) = 1 - yOf c := by
  unfold yOf srcDev
  have := i.isLt; dsimp only; omega

theorem halves_aux (f : Fin 2048 → EReal) :
    ∑ i : Fin 1024, f (halfRow 0 (by decide) i) + ∑ i : Fin 1024, f (halfRow 1 (by decide) i) = ∑ k, f k := by
  refine Eq.symm ((Fin.sum_univ_add (a := 1024) (b := 1024) f).trans (congrArg₂ (· + ·) ?_ ?_))
  · exact Finset.sum_congr rfl fun i _ => congrArg f (Fin.ext (by show i.val = 1024 * 0 + i.val; omega))
  · exact Finset.sum_congr rfl fun i _ => congrArg f (Fin.ext (by show 1024 + i.val = 1024 * 1 + i.val; omega))

/-- The two halves make the whole. -/
theorem halves (f : Fin 2048 → EReal) (y : ℕ) (hy : y < 2) :
    ∑ i : Fin 1024, f (halfRow y hy i) + ∑ i : Fin 1024, f (halfRow (1 - y) (by omega) i) = ∑ k, f k := by
  obtain rfl | rfl : y = 0 ∨ y = 1 := by omega
  · exact halves_aux f
  · rw [add_comm]; exact halves_aux f

/-! ## The result -/

section Result
variable (Q K V : (⟨2, ![2048, 2048]⟩ : Shape).Idx → EReal)
  (hQ : ∀ c : Dev nD, qX (F := Ideal) m c = blkN c Q) (hK : ∀ c : Dev nD, kX (F := Ideal) m c = blkN c K) (hV : ∀ c : Dev nD, vX (F := Ideal) m c = blkN c V)
include hQ hK hV

theorem land_apply (i : Fin 1024) (x : Fin 2048) :
    pln (land (F := Ideal) m c) 0 (ix2 i x) = K (ix2 (halfRow (1 - yOf c) (by omega) i) x)
      ∧ pln (land (F := Ideal) m c) 1 (ix2 i x) = V (ix2 (halfRow (1 - yOf c) (by omega) i) x) := by
  have e0 : pln (land (F := Ideal) m c) 0 (ix2 i x) = kX (F := Ideal) m (srcDev c i) (ix2 i x) := by
    rw [ix2_eq_valueIdx]; rfl
  have e1 : pln (land (F := Ideal) m c) 1 (ix2 i x) = vX (F := Ideal) m (srcDev c i) (ix2 i x) := by
    rw [ix2_eq_valueIdx]; rfl
  have er : halfRow (yOf (srcDev c i)) (yOf_lt _) i = halfRow (1 - yOf c) (by omega) i := Fin.ext (by
    show 1024 * yOf (srcDev c i) + i.val = 1024 * (1 - yOf c) + i.val; rw [srcDev_half])
  rw [e0, e1, hK, hV, blkN_apply, blkN_apply, er]
  exact ⟨rfl, rfl⟩

theorem ex_eq (k : S1024x2048.Idx → EReal) (h : Fin 16) (r i : Fin 1024) (j : Fin 2048) (hk : ∀ x, k (ix2 i x) = K (ix2 j x)) :
    ex (qsX (F := Ideal) m c) k h r i = Ideal.exp (Ref.scores Q K (ix4 0 h (halfRow (yOf c) (yOf_lt c) r) j)) := by
  obtain ⟨s, hs, es⟩ := scale_real
  unfold ex
  rw [Ref.scores_apply, es, coe_mul_sum s hs]
  refine congrArg Ideal.exp (Finset.sum_congr rfl fun d _ => ?_)
  rw [hk, show qsX (F := Ideal) m c (ix2 r (col h d)) = qX (F := Ideal) m c (ix2 r (col h d)) * Ideal.ofBits .f32 0x3DB504F3#32 from qsV_apply _ _ _,
    hQ, blkN_apply, es, mul_right_comm]

theorem out_eq (fQ : ∀ i, ∃ x : ℝ, Q i = (x : EReal)) (fK : ∀ i, ∃ x : ℝ, K i = (x : EReal)) :
    outAt (F := Ideal) m c = blkN c (Ref.out Q K V) := by
  have key : ∀ (r : Fin 1024) (h : Fin 16) (d : Fin 128), oEnd (F := Ideal) m c h (ix2 r d) = blkN c (Ref.out Q K V) (ix2 r (col h d)) := fun r h d => by
    rw [oEnd_apply, blkN_apply, Ref.out_finite Q K V fQ fK]
    have own : ∀ i : Fin 1024, ex (qsX (F := Ideal) m c) (kX m c) h r i
        = Ideal.exp (Ref.scores Q K (ix4 0 h (halfRow (yOf c) (yOf_lt c) r) (halfRow (yOf c) (yOf_lt c) i))) := fun i =>
      ex_eq m c Q K V hQ hK hV _ h r i _ fun x => by rw [hK, blkN_apply]
    have oth : ∀ i : Fin 1024, ex (qsX (F := Ideal) m c) (pln (land m c) 0) h r i
        = Ideal.exp (Ref.scores Q K (ix4 0 h (halfRow (yOf c) (yOf_lt c) r) (halfRow (1 - yOf c) (by omega) i))) := fun i =>
      ex_eq m c Q K V hQ hK hV _ h r i _ fun x => (land_apply m c Q K V hQ hK hV i x).1
    have vo : ∀ i : Fin 1024, pln (land (F := Ideal) m c) 1 (ix2 i (col h d)) = V (ix2 (halfRow (1 - yOf c) (by omega) i) (col h d)) := fun i =>
      (land_apply m c Q K V hQ hK hV i _).2
    simp only [own, oth, vo, hV, blkN_apply]
    rw [halves (fun k => Ideal.exp (Ref.scores Q K (ix4 0 h (halfRow (yOf c) (yOf_lt c) r) k))) (yOf c) (yOf_lt c),
      halves (fun k => Ideal.exp (Ref.scores Q K (ix4 0 h (halfRow (yOf c) (yOf_lt c) r) k)) * V (ix2 k (col h d))) (yOf c) (yOf_lt c)]
  funext i
  have h1 : (i 1).val < 2048 := (i 1).isLt
  refine (congrArg (oEnd (F := Ideal) m c _) (ix2_eq_valueIdx _ _).symm).trans ((key (i 0) ⟨(i 1).val / 128, by omega⟩ ⟨(i 1).val % 128, Nat.mod_lt _ (by decide)⟩).trans ?_)
  refine congrArg (blkN c (Ref.out Q K V)) (funext fun a => Fin.ext ?_)
  match a with
  | ⟨0, _⟩ => rfl
  | ⟨1, _⟩ => show 128 * ((i 1).val / 128) + (i 1).val % 128 = (i 1).val; omega

end Result

/-! ## Finite operands -/

theorem real_of_lt (x : EReal) (h : max x (-x) < ⊤) : ∃ y : ℝ, x = (y : EReal) := by
  induction x with
  | bot => simp at h
  | top => simp at h
  | coe r => exact ⟨r, rfl⟩

/-- Every element of a whole array is in some device's block. -/
theorem real_whole (v : (⟨2, ![2048, 2048]⟩ : Shape).Idx → EReal) (h : ∀ (c : Dev nD) (i : (⟨2, ![1024, 2048]⟩ : Shape).Idx), ∃ y : ℝ, blkN c v i = (y : EReal)) :
    ∀ j, ∃ y : ℝ, v j = (y : EReal) := by
  intro j
  have h0 : (j 0).val < 2048 := (j 0).isLt
  let c : Dev nD := ⟨2 * ((j 0).val / 1024), by show _ < 8; omega⟩
  have hy : yOf c = (j 0).val / 1024 := by show 2 * ((j 0).val / 1024) / 2 % 2 = _; omega
  obtain ⟨y, e⟩ := h c (ix2 ⟨(j 0).val % 1024, Nat.mod_lt _ (by decide)⟩ (j 1))
  refine ⟨y, ?_⟩
  refine Eq.trans ?_ ((blkN_apply c v ⟨(j 0).val % 1024, Nat.mod_lt _ (by decide)⟩ (j 1)).symm.trans e)
  refine congrArg v (funext fun a => Fin.ext ?_)
  match a with
  | ⟨0, _⟩ => show (j 0).val = 1024 * yOf c + (j 0).val % 1024; rw [hy]; omega
  | ⟨1, _⟩ => rfl

attribute [local instance] Cert.Pre_finite_KernelIdeal.Gen.facts in
theorem finite_of_pre (h : Cert.Pre_KernelIdeal_finite_KernelIdeal m) (c : Dev nD) (i : S1024x2048.Idx) :
    (∃ y : ℝ, m ((c : Thread nD τ).loc main_arg0) i = (y : EReal)) ∧ (∃ y : ℝ, m ((c : Thread nD τ).loc main_arg1) i = (y : EReal)) := by
  have e := congrFun (h c) i
  unfold Cert.Pre_finite_KernelIdeal.fn at e
  revert e
  pointwise []
  rw [infinity]
  intro e
  have bits : ∀ a b : Bool, IntOp.andi (BitVec.ofBool a) (BitVec.ofBool b) = 1#1 → a = true ∧ b = true := by decide
  obtain ⟨e0, e1⟩ := bits _ _ e
  exact ⟨real_of_lt _ (of_decide_eq_true e0), real_of_lt _ (of_decide_eq_true e1)⟩

/-! ## The claim -/

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m ρ m' ρ' hpre hag
  let Q := m' (((0 : Dev Cert.ReferenceIdeal.nD).tc : Thread Cert.ReferenceIdeal.nD Cert.ReferenceIdeal.τ).loc Cert.ReferenceIdeal.main_arg0)
  let K := m' (((0 : Dev Cert.ReferenceIdeal.nD).tc : Thread Cert.ReferenceIdeal.nD Cert.ReferenceIdeal.τ).loc Cert.ReferenceIdeal.main_arg1)
  let V := m' (((0 : Dev Cert.ReferenceIdeal.nD).tc : Thread Cert.ReferenceIdeal.nD Cert.ReferenceIdeal.τ).loc Cert.ReferenceIdeal.main_arg2)
  refine ⟨Ref.out Q K V, ?_, ?_⟩
  · refine (θ_run defs _ _).mono (fun _ h c => ⟨(h.1 c (3 : Fin 4)).trans ?_,
      (h.1 c (0 : Fin 4)).trans (finalA_in m ρ c (0 : Fin 4) (by decide)),
      (h.1 c (1 : Fin 4)).trans (finalA_in m ρ c (1 : Fin 4) (by decide)),
      (h.1 c (2 : Fin 4)).trans (finalA_in m ρ c (2 : Fin 4) (by decide))⟩) (run_main (F := Ideal) m ρ)
    have fQ := real_whole Q fun c i => by
      obtain ⟨y, e⟩ := (finite_of_pre m hpre c i).1
      exact ⟨y, (congrFun (hag c).1 i).symm.trans e⟩
    have fK := real_whole K fun c i => by
      obtain ⟨y, e⟩ := (finite_of_pre m hpre c i).2
      exact ⟨y, (congrFun (hag c).2.1 i).symm.trans e⟩
    exact (finalA_out m ρ c).trans (out_eq m c Q K V (fun c => (qX_eq m c).trans (hag c).1) (fun c => (kX_eq m c).trans (hag c).2.1)
      (fun c => (vX_eq m c).trans (hag c).2.2) fQ fK)
  · exact (θ_run Cert.ReferenceIdeal.defs _ _).mono (fun _ h => h 0) (Cert.ReferenceIdeal.Value.run (F := Ideal) m' ρ')

end Cert.Attn

end
-- ==== Proof.lean ====
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Attn.frame_p, Cert.Attn.frame_pi, Cert.Attn.frame_pi_pre, Cert.Attn.frame_ri, Cert.Attn.frame_ri_pre, trivial, Cert.Attn.algebraic⟩

end Cert.Proof

end
